-- ==== Defs.lean ====
def Pre_Kernel (m : (ℓ : Loc Cert.Kernel.nD Cert.Kernel.τ Cert.Kernel.sig) → Buf (Elt Bits) ℓ) : Prop :=
  True

def Pre_Codes (m : (ℓ : Loc Cert.Codes.nD Cert.Codes.τ Cert.Codes.sig) → Buf (Elt Bits) ℓ) : Prop :=
  True

def Pre_CodesIdeal (m : (ℓ : Loc Cert.CodesIdeal.nD Cert.CodesIdeal.τ Cert.CodesIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_Codes [hCodes : Cert.Codes.Facts] : Prop :=
  ∀ (m : (ℓ : Loc Cert.Codes.nD Cert.Codes.τ Cert.Codes.sig) → Buf (Elt Bits) ℓ) (g : Dev Cert.Codes.nD → PrngReg), Pre_Codes m →
    θ_run (Cert.Codes.defs (F := Bits)) (onTc (τ := Cert.Codes.τ) (Cert.Codes.main (F := Bits))) ⟨m, fun _ => 0, g⟩ (fun r => (∀ c : Dev Cert.Codes.nD,
      r.2.mem ((c.tc : Thread Cert.Codes.nD Cert.Codes.τ).loc Cert.Codes.main_arg0) = m ((c.tc : Thread Cert.Codes.nD Cert.Codes.τ).loc Cert.Codes.main_arg0)
      ∧ r.2.mem ((c.tc : Thread Cert.Codes.nD Cert.Codes.τ).loc Cert.Codes.main_arg1) = m ((c.tc : Thread Cert.Codes.nD Cert.Codes.τ).loc Cert.Codes.main_arg1)
      ∧ r.2.mem ((c.tc : Thread Cert.Codes.nD Cert.Codes.τ).loc Cert.Codes.main_arg2) = m ((c.tc : Thread Cert.Codes.nD Cert.Codes.τ).loc Cert.Codes.main_arg2)
      ∧ r.2.mem ((c.tc : Thread Cert.Codes.nD Cert.Codes.τ).loc Cert.Codes.main_arg3) = m ((c.tc : Thread Cert.Codes.nD Cert.Codes.τ).loc Cert.Codes.main_arg3)
      ∧ r.2.mem ((c.tc : Thread Cert.Codes.nD Cert.Codes.τ).loc Cert.Codes.main_arg4) = m ((c.tc : Thread Cert.Codes.nD Cert.Codes.τ).loc Cert.Codes.main_arg4))
      ∧ r.2.sem = fun _ => 0)

def quiescent_CodesIdeal [hCodesIdeal : Cert.CodesIdeal.Facts] : Prop :=
  ∀ (m : (ℓ : Loc Cert.CodesIdeal.nD Cert.CodesIdeal.τ Cert.CodesIdeal.sig) → Buf (Elt Ideal) ℓ) (g : Dev Cert.CodesIdeal.nD → PrngReg), Pre_CodesIdeal m →
    θ_run (Cert.CodesIdeal.defs (F := Ideal)) (onTc (τ := Cert.CodesIdeal.τ) (Cert.CodesIdeal.main (F := Ideal))) ⟨m, fun _ => 0, g⟩ (fun r => (∀ c : Dev Cert.CodesIdeal.nD,
      r.2.mem ((c.tc : Thread Cert.CodesIdeal.nD Cert.CodesIdeal.τ).loc Cert.CodesIdeal.main_arg0) = m ((c.tc : Thread Cert.CodesIdeal.nD Cert.CodesIdeal.τ).loc Cert.CodesIdeal.main_arg0)
      ∧ r.2.mem ((c.tc : Thread Cert.CodesIdeal.nD Cert.CodesIdeal.τ).loc Cert.CodesIdeal.main_arg1) = m ((c.tc : Thread Cert.CodesIdeal.nD Cert.CodesIdeal.τ).loc Cert.CodesIdeal.main_arg1)
      ∧ r.2.mem ((c.tc : Thread Cert.CodesIdeal.nD Cert.CodesIdeal.τ).loc Cert.CodesIdeal.main_arg2) = m ((c.tc : Thread Cert.CodesIdeal.nD Cert.CodesIdeal.τ).loc Cert.CodesIdeal.main_arg2)
      ∧ r.2.mem ((c.tc : Thread Cert.CodesIdeal.nD Cert.CodesIdeal.τ).loc Cert.CodesIdeal.main_arg3) = m ((c.tc : Thread Cert.CodesIdeal.nD Cert.CodesIdeal.τ).loc Cert.CodesIdeal.main_arg3)
      ∧ r.2.mem ((c.tc : Thread Cert.CodesIdeal.nD Cert.CodesIdeal.τ).loc Cert.CodesIdeal.main_arg4) = m ((c.tc : Thread Cert.CodesIdeal.nD Cert.CodesIdeal.τ).loc Cert.CodesIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def holds_Kernel_tail_is_packed [hKernel : Cert.Kernel.Facts] [hPost_tail_is_packed : Cert.Post_tail_is_packed.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ (Cert.Post_tail_is_packed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (r.2.mem ((c.tc : Thread Cert.Kernel.nD Cert.Kernel.τ).loc Cert.Kernel.main_v0_0)) (r.2.mem ((c.tc : Thread Cert.Kernel.nD Cert.Kernel.τ).loc Cert.Kernel.main_v0_1)) (r.2.mem ((c.tc : Thread Cert.Kernel.nD Cert.Kernel.τ).loc Cert.Kernel.main_v0_2)) (r.2.mem ((c.tc : Thread Cert.Kernel.nD Cert.Kernel.τ).loc Cert.Kernel.main_v0_3))) = (fun _ => 1#1))

def bitexact_Kernel_Codes_on_codes_only [hKernel : Cert.Kernel.Facts] [hCodes : Cert.Codes.Facts] [hOn_codes_only : Cert.On_codes_only.Facts] : Prop :=
  ∀ (m : (ℓ : Loc Cert.Kernel.nD Cert.Kernel.τ Cert.Kernel.sig) → Buf (Elt Bits) ℓ) (g : Dev Cert.Kernel.nD → PrngReg)
    (m' : (ℓ : Loc Cert.Codes.nD Cert.Codes.τ Cert.Codes.sig) → Buf (Elt Bits) ℓ) (g' : Dev Cert.Codes.nD → PrngReg), Pre_Kernel m →
    (∀ c : Dev Cert.Kernel.nD,
      m' ((c.tc : Thread Cert.Codes.nD Cert.Codes.τ).loc Cert.Codes.main_arg0) = m ((c.tc : Thread Cert.Kernel.nD Cert.Kernel.τ).loc Cert.Kernel.main_arg0)
      ∧ m' ((c.tc : Thread Cert.Codes.nD Cert.Codes.τ).loc Cert.Codes.main_arg1) = m ((c.tc : Thread Cert.Kernel.nD Cert.Kernel.τ).loc Cert.Kernel.main_arg1)
      ∧ m' ((c.tc : Thread Cert.Codes.nD Cert.Codes.τ).loc Cert.Codes.main_arg2) = m ((c.tc : Thread Cert.Kernel.nD Cert.Kernel.τ).loc Cert.Kernel.main_arg2)
      ∧ m' ((c.tc : Thread Cert.Codes.nD Cert.Codes.τ).loc Cert.Codes.main_arg3) = m ((c.tc : Thread Cert.Kernel.nD Cert.Kernel.τ).loc Cert.Kernel.main_arg3)
      ∧ m' ((c.tc : Thread Cert.Codes.nD Cert.Codes.τ).loc Cert.Codes.main_arg4) = m ((c.tc : Thread Cert.Kernel.nD Cert.Kernel.τ).loc Cert.Kernel.main_arg4)) →
    ∃ (v0 : (c : Dev Cert.Kernel.nD) → Buf (Elt Bits) ((c.tc : Thread Cert.Kernel.nD Cert.Kernel.τ).loc Cert.Kernel.main_v0_0)) (v1 : (c : Dev Cert.Kernel.nD) → Buf (Elt Bits) ((c.tc : Thread Cert.Kernel.nD Cert.Kernel.τ).loc Cert.Kernel.main_v0_1)) (v2 : (c : Dev Cert.Kernel.nD) → Buf (Elt Bits) ((c.tc : Thread Cert.Kernel.nD Cert.Kernel.τ).loc Cert.Kernel.main_v0_2)) (v3 : (c : Dev Cert.Kernel.nD) → Buf (Elt Bits) ((c.tc : Thread Cert.Kernel.nD Cert.Kernel.τ).loc Cert.Kernel.main_v0_3)),
      θ_run (Cert.Kernel.defs (F := Bits)) (onTc (τ := Cert.Kernel.τ) (Cert.Kernel.main (F := Bits))) ⟨m, fun _ => 0, g⟩ (fun r => ∀ c : Dev Cert.Kernel.nD,
          (∀ i : (⟨2, ![264, 32768]⟩ : Shape).Idx, (Cert.On_codes_only.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))).1 i = 1#1 → r.2.mem ((c.tc : Thread Cert.Kernel.nD Cert.Kernel.τ).loc Cert.Kernel.main_v0_0) i = v0 c i)
          ∧ (∀ i : (⟨1, ![32768]⟩ : Shape).Idx, (Cert.On_codes_only.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))).2.1 i = 1#1 → r.2.mem ((c.tc : Thread Cert.Kernel.nD Cert.Kernel.τ).loc Cert.Kernel.main_v0_1) i = v1 c i)
          ∧ (∀ i : (⟨1, ![32768]⟩ : Shape).Idx, (Cert.On_codes_only.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))).2.2.1 i = 1#1 → r.2.mem ((c.tc : Thread Cert.Kernel.nD Cert.Kernel.τ).loc Cert.Kernel.main_v0_2) i = v2 c i)
          ∧ (∀ i : (⟨1, ![32768]⟩ : Shape).Idx, (Cert.On_codes_only.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))).2.2.2 i = 1#1 → r.2.mem ((c.tc : Thread Cert.Kernel.nD Cert.Kernel.τ).loc Cert.Kernel.main_v0_3) i = v3 c i)
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3)
          ∧ r.2.mem ((c.tc : Thread Cert.Kernel.nD Cert.Kernel.τ).loc Cert.Kernel.main_arg4) = m ((c.tc : Thread Cert.Kernel.nD Cert.Kernel.τ).loc Cert.Kernel.main_arg4))
      ∧ θ_run (Cert.Codes.defs (F := Bits)) (onTc (τ := Cert.Codes.τ) (Cert.Codes.main (F := Bits))) ⟨m', fun _ => 0, g'⟩ (fun r => ∀ c : Dev Cert.Codes.nD,
          (∀ i : (⟨2, ![264, 32768]⟩ : Shape).Idx, (Cert.On_codes_only.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))).1 i = 1#1 → r.2.mem ((c.tc : Thread Cert.Codes.nD Cert.Codes.τ).loc Cert.Codes.main_v0_0) i = v0 c i)
          ∧ (∀ i : (⟨1, ![32768]⟩ : Shape).Idx, (Cert.On_codes_only.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))).2.1 i = 1#1 → r.2.mem ((c.tc : Thread Cert.Codes.nD Cert.Codes.τ).loc Cert.Codes.main_v0_1) i = v1 c i)
          ∧ (∀ i : (⟨1, ![32768]⟩ : Shape).Idx, (Cert.On_codes_only.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))).2.2.1 i = 1#1 → r.2.mem ((c.tc : Thread Cert.Codes.nD Cert.Codes.τ).loc Cert.Codes.main_v0_2) i = v2 c i)
          ∧ (∀ i : (⟨1, ![32768]⟩ : Shape).Idx, (Cert.On_codes_only.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))).2.2.2 i = 1#1 → r.2.mem ((c.tc : Thread Cert.Codes.nD Cert.Codes.τ).loc Cert.Codes.main_v0_3) i = v3 c i)
          ∧ r.2.mem ((c.tc : Thread Cert.Codes.nD Cert.Codes.τ).loc Cert.Codes.main_arg0) = m' ((c.tc : Thread Cert.Codes.nD Cert.Codes.τ).loc Cert.Codes.main_arg0)
          ∧ r.2.mem ((c.tc : Thread Cert.Codes.nD Cert.Codes.τ).loc Cert.Codes.main_arg1) = m' ((c.tc : Thread Cert.Codes.nD Cert.Codes.τ).loc Cert.Codes.main_arg1)
          ∧ r.2.mem ((c.tc : Thread Cert.Codes.nD Cert.Codes.τ).loc Cert.Codes.main_arg2) = m' ((c.tc : Thread Cert.Codes.nD Cert.Codes.τ).loc Cert.Codes.main_arg2)
          ∧ r.2.mem ((c.tc : Thread Cert.Codes.nD Cert.Codes.τ).loc Cert.Codes.main_arg3) = m' ((c.tc : Thread Cert.Codes.nD Cert.Codes.τ).loc Cert.Codes.main_arg3)
          ∧ r.2.mem ((c.tc : Thread Cert.Codes.nD Cert.Codes.τ).loc Cert.Codes.main_arg4) = m' ((c.tc : Thread Cert.Codes.nD Cert.Codes.τ).loc Cert.Codes.main_arg4))

def preserves_Codes_CodesIdeal : Prop :=
  True

def algebraic_CodesIdeal_ReferenceIdeal_on_codes_only [hCodesIdeal : Cert.CodesIdeal.Facts] [hReferenceIdeal : Cert.ReferenceIdeal.Facts] [hOn_codes_only : Cert.On_codes_only.Facts] : Prop :=
  ∀ (m : (ℓ : Loc Cert.CodesIdeal.nD Cert.CodesIdeal.τ Cert.CodesIdeal.sig) → Buf (Elt Ideal) ℓ) (g : Dev Cert.CodesIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_CodesIdeal m →
    (∀ c : Dev Cert.CodesIdeal.nD,
      m' ((c.tc : Thread Cert.ReferenceIdeal.nD Cert.ReferenceIdeal.τ).loc Cert.ReferenceIdeal.main_arg0) = m ((c.tc : Thread Cert.CodesIdeal.nD Cert.CodesIdeal.τ).loc Cert.CodesIdeal.main_arg0)
      ∧ m' ((c.tc : Thread Cert.ReferenceIdeal.nD Cert.ReferenceIdeal.τ).loc Cert.ReferenceIdeal.main_arg1) = m ((c.tc : Thread Cert.CodesIdeal.nD Cert.CodesIdeal.τ).loc Cert.CodesIdeal.main_arg1)
      ∧ m' ((c.tc : Thread Cert.ReferenceIdeal.nD Cert.ReferenceIdeal.τ).loc Cert.ReferenceIdeal.main_arg2) = m ((c.tc : Thread Cert.CodesIdeal.nD Cert.CodesIdeal.τ).loc Cert.CodesIdeal.main_arg2)
      ∧ m' ((c.tc : Thread Cert.ReferenceIdeal.nD Cert.ReferenceIdeal.τ).loc Cert.ReferenceIdeal.main_arg3) = m ((c.tc : Thread Cert.CodesIdeal.nD Cert.CodesIdeal.τ).loc Cert.CodesIdeal.main_arg3)
      ∧ m' ((c.tc : Thread Cert.ReferenceIdeal.nD Cert.ReferenceIdeal.τ).loc Cert.ReferenceIdeal.main_arg4) = m ((c.tc : Thread Cert.CodesIdeal.nD Cert.CodesIdeal.τ).loc Cert.CodesIdeal.main_arg4)) →
    ∃ (v0 : (c : Dev Cert.CodesIdeal.nD) → Buf (Elt Ideal) ((c.tc : Thread Cert.CodesIdeal.nD Cert.CodesIdeal.τ).loc Cert.CodesIdeal.main_v0_0)) (v1 : (c : Dev Cert.CodesIdeal.nD) → Buf (Elt Ideal) ((c.tc : Thread Cert.CodesIdeal.nD Cert.CodesIdeal.τ).loc Cert.CodesIdeal.main_v0_1)) (v2 : (c : Dev Cert.CodesIdeal.nD) → Buf (Elt Ideal) ((c.tc : Thread Cert.CodesIdeal.nD Cert.CodesIdeal.τ).loc Cert.CodesIdeal.main_v0_2)) (v3 : (c : Dev Cert.CodesIdeal.nD) → Buf (Elt Ideal) ((c.tc : Thread Cert.CodesIdeal.nD Cert.CodesIdeal.τ).loc Cert.CodesIdeal.main_v0_3)),
      θ_run (Cert.CodesIdeal.defs (F := Ideal)) (onTc (τ := Cert.CodesIdeal.τ) (Cert.CodesIdeal.main (F := Ideal))) ⟨m, fun _ => 0, g⟩ (fun r => ∀ c : Dev Cert.CodesIdeal.nD,
          (∀ i : (⟨2, ![264, 32768]⟩ : Shape).Idx, (Cert.On_codes_only.fn (F := Ideal) (m ((c.tc : Thread Cert.CodesIdeal.nD Cert.CodesIdeal.τ).loc Cert.CodesIdeal.main_arg0)) (m ((c.tc : Thread Cert.CodesIdeal.nD Cert.CodesIdeal.τ).loc Cert.CodesIdeal.main_arg1)) (m ((c.tc : Thread Cert.CodesIdeal.nD Cert.CodesIdeal.τ).loc Cert.CodesIdeal.main_arg2)) (m ((c.tc : Thread Cert.CodesIdeal.nD Cert.CodesIdeal.τ).loc Cert.CodesIdeal.main_arg3)) (m ((c.tc : Thread Cert.CodesIdeal.nD Cert.CodesIdeal.τ).loc Cert.CodesIdeal.main_arg4))).1 i = 1#1 → r.2.mem ((c.tc : Thread Cert.CodesIdeal.nD Cert.CodesIdeal.τ).loc Cert.CodesIdeal.main_v0_0) i = v0 c i)
          ∧ (∀ i : (⟨1, ![32768]⟩ : Shape).Idx, (Cert.On_codes_only.fn (F := Ideal) (m ((c.tc : Thread Cert.CodesIdeal.nD Cert.CodesIdeal.τ).loc Cert.CodesIdeal.main_arg0)) (m ((c.tc : Thread Cert.CodesIdeal.nD Cert.CodesIdeal.τ).loc Cert.CodesIdeal.main_arg1)) (m ((c.tc : Thread Cert.CodesIdeal.nD Cert.CodesIdeal.τ).loc Cert.CodesIdeal.main_arg2)) (m ((c.tc : Thread Cert.CodesIdeal.nD Cert.CodesIdeal.τ).loc Cert.CodesIdeal.main_arg3)) (m ((c.tc : Thread Cert.CodesIdeal.nD Cert.CodesIdeal.τ).loc Cert.CodesIdeal.main_arg4))).2.1 i = 1#1 → r.2.mem ((c.tc : Thread Cert.CodesIdeal.nD Cert.CodesIdeal.τ).loc Cert.CodesIdeal.main_v0_1) i = v1 c i)
          ∧ (∀ i : (⟨1, ![32768]⟩ : Shape).Idx, (Cert.On_codes_only.fn (F := Ideal) (m ((c.tc : Thread Cert.CodesIdeal.nD Cert.CodesIdeal.τ).loc Cert.CodesIdeal.main_arg0)) (m ((c.tc : Thread Cert.CodesIdeal.nD Cert.CodesIdeal.τ).loc Cert.CodesIdeal.main_arg1)) (m ((c.tc : Thread Cert.CodesIdeal.nD Cert.CodesIdeal.τ).loc Cert.CodesIdeal.main_arg2)) (m ((c.tc : Thread Cert.CodesIdeal.nD Cert.CodesIdeal.τ).loc Cert.CodesIdeal.main_arg3)) (m ((c.tc : Thread Cert.CodesIdeal.nD Cert.CodesIdeal.τ).loc Cert.CodesIdeal.main_arg4))).2.2.1 i = 1#1 → r.2.mem ((c.tc : Thread Cert.CodesIdeal.nD Cert.CodesIdeal.τ).loc Cert.CodesIdeal.main_v0_2) i = v2 c i)
          ∧ (∀ i : (⟨1, ![32768]⟩ : Shape).Idx, (Cert.On_codes_only.fn (F := Ideal) (m ((c.tc : Thread Cert.CodesIdeal.nD Cert.CodesIdeal.τ).loc Cert.CodesIdeal.main_arg0)) (m ((c.tc : Thread Cert.CodesIdeal.nD Cert.CodesIdeal.τ).loc Cert.CodesIdeal.main_arg1)) (m ((c.tc : Thread Cert.CodesIdeal.nD Cert.CodesIdeal.τ).loc Cert.CodesIdeal.main_arg2)) (m ((c.tc : Thread Cert.CodesIdeal.nD Cert.CodesIdeal.τ).loc Cert.CodesIdeal.main_arg3)) (m ((c.tc : Thread Cert.CodesIdeal.nD Cert.CodesIdeal.τ).loc Cert.CodesIdeal.main_arg4))).2.2.2 i = 1#1 → r.2.mem ((c.tc : Thread Cert.CodesIdeal.nD Cert.CodesIdeal.τ).loc Cert.CodesIdeal.main_v0_3) i = v3 c i)
          ∧ r.2.mem ((c.tc : Thread Cert.CodesIdeal.nD Cert.CodesIdeal.τ).loc Cert.CodesIdeal.main_arg0) = m ((c.tc : Thread Cert.CodesIdeal.nD Cert.CodesIdeal.τ).loc Cert.CodesIdeal.main_arg0)
          ∧ r.2.mem ((c.tc : Thread Cert.CodesIdeal.nD Cert.CodesIdeal.τ).loc Cert.CodesIdeal.main_arg1) = m ((c.tc : Thread Cert.CodesIdeal.nD Cert.CodesIdeal.τ).loc Cert.CodesIdeal.main_arg1)
          ∧ r.2.mem ((c.tc : Thread Cert.CodesIdeal.nD Cert.CodesIdeal.τ).loc Cert.CodesIdeal.main_arg2) = m ((c.tc : Thread Cert.CodesIdeal.nD Cert.CodesIdeal.τ).loc Cert.CodesIdeal.main_arg2)
          ∧ r.2.mem ((c.tc : Thread Cert.CodesIdeal.nD Cert.CodesIdeal.τ).loc Cert.CodesIdeal.main_arg3) = m ((c.tc : Thread Cert.CodesIdeal.nD Cert.CodesIdeal.τ).loc Cert.CodesIdeal.main_arg3)
          ∧ r.2.mem ((c.tc : Thread Cert.CodesIdeal.nD Cert.CodesIdeal.τ).loc Cert.CodesIdeal.main_arg4) = m ((c.tc : Thread Cert.CodesIdeal.nD Cert.CodesIdeal.τ).loc Cert.CodesIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![264, 32768]⟩ : Shape).Idx, (Cert.On_codes_only.fn (F := Ideal) (m ((c.tc : Thread Cert.CodesIdeal.nD Cert.CodesIdeal.τ).loc Cert.CodesIdeal.main_arg0)) (m ((c.tc : Thread Cert.CodesIdeal.nD Cert.CodesIdeal.τ).loc Cert.CodesIdeal.main_arg1)) (m ((c.tc : Thread Cert.CodesIdeal.nD Cert.CodesIdeal.τ).loc Cert.CodesIdeal.main_arg2)) (m ((c.tc : Thread Cert.CodesIdeal.nD Cert.CodesIdeal.τ).loc Cert.CodesIdeal.main_arg3)) (m ((c.tc : Thread Cert.CodesIdeal.nD Cert.CodesIdeal.τ).loc Cert.CodesIdeal.main_arg4))).1 i = 1#1 → r.2.mem ((c.tc : Thread Cert.ReferenceIdeal.nD Cert.ReferenceIdeal.τ).loc Cert.ReferenceIdeal.main_v69) i = v0 c i)
          ∧ (∀ i : (⟨1, ![32768]⟩ : Shape).Idx, (Cert.On_codes_only.fn (F := Ideal) (m ((c.tc : Thread Cert.CodesIdeal.nD Cert.CodesIdeal.τ).loc Cert.CodesIdeal.main_arg0)) (m ((c.tc : Thread Cert.CodesIdeal.nD Cert.CodesIdeal.τ).loc Cert.CodesIdeal.main_arg1)) (m ((c.tc : Thread Cert.CodesIdeal.nD Cert.CodesIdeal.τ).loc Cert.CodesIdeal.main_arg2)) (m ((c.tc : Thread Cert.CodesIdeal.nD Cert.CodesIdeal.τ).loc Cert.CodesIdeal.main_arg3)) (m ((c.tc : Thread Cert.CodesIdeal.nD Cert.CodesIdeal.τ).loc Cert.CodesIdeal.main_arg4))).2.1 i = 1#1 → r.2.mem ((c.tc : Thread Cert.ReferenceIdeal.nD Cert.ReferenceIdeal.τ).loc Cert.ReferenceIdeal.main_v46) i = v1 c i)
          ∧ (∀ i : (⟨1, ![32768]⟩ : Shape).Idx, (Cert.On_codes_only.fn (F := Ideal) (m ((c.tc : Thread Cert.CodesIdeal.nD Cert.CodesIdeal.τ).loc Cert.CodesIdeal.main_arg0)) (m ((c.tc : Thread Cert.CodesIdeal.nD Cert.CodesIdeal.τ).loc Cert.CodesIdeal.main_arg1)) (m ((c.tc : Thread Cert.CodesIdeal.nD Cert.CodesIdeal.τ).loc Cert.CodesIdeal.main_arg2)) (m ((c.tc : Thread Cert.CodesIdeal.nD Cert.CodesIdeal.τ).loc Cert.CodesIdeal.main_arg3)) (m ((c.tc : Thread Cert.CodesIdeal.nD Cert.CodesIdeal.τ).loc Cert.CodesIdeal.main_arg4))).2.2.1 i = 1#1 → r.2.mem ((c.tc : Thread Cert.ReferenceIdeal.nD Cert.ReferenceIdeal.τ).loc Cert.ReferenceIdeal.main_v42) i = v2 c i)
          ∧ (∀ i : (⟨1, ![32768]⟩ : Shape).Idx, (Cert.On_codes_only.fn (F := Ideal) (m ((c.tc : Thread Cert.CodesIdeal.nD Cert.CodesIdeal.τ).loc Cert.CodesIdeal.main_arg0)) (m ((c.tc : Thread Cert.CodesIdeal.nD Cert.CodesIdeal.τ).loc Cert.CodesIdeal.main_arg1)) (m ((c.tc : Thread Cert.CodesIdeal.nD Cert.CodesIdeal.τ).loc Cert.CodesIdeal.main_arg2)) (m ((c.tc : Thread Cert.CodesIdeal.nD Cert.CodesIdeal.τ).loc Cert.CodesIdeal.main_arg3)) (m ((c.tc : Thread Cert.CodesIdeal.nD Cert.CodesIdeal.τ).loc Cert.CodesIdeal.main_arg4))).2.2.2 i = 1#1 → r.2.mem ((c.tc : Thread Cert.ReferenceIdeal.nD Cert.ReferenceIdeal.τ).loc Cert.ReferenceIdeal.main_v32) i = v3 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hCodes : Cert.Codes.Facts) (hCodesIdeal : Cert.CodesIdeal.Facts) (hReferenceIdeal : Cert.ReferenceIdeal.Facts) (hPost_tail_is_packed : Cert.Post_tail_is_packed.Facts) (hOn_codes_only : Cert.On_codes_only.Facts),
    quiescent_Kernel (hKernel := hKernel)
    ∧ quiescent_Codes (hCodes := hCodes)
    ∧ quiescent_CodesIdeal (hCodesIdeal := hCodesIdeal)
    ∧ quiescent_ReferenceIdeal (hReferenceIdeal := hReferenceIdeal)
    ∧ holds_Kernel_tail_is_packed (hKernel := hKernel) (hPost_tail_is_packed := hPost_tail_is_packed)
    ∧ bitexact_Kernel_Codes_on_codes_only (hKernel := hKernel) (hCodes := hCodes) (hOn_codes_only := hOn_codes_only)
    ∧ preserves_Codes_CodesIdeal
    ∧ algebraic_CodesIdeal_ReferenceIdeal_on_codes_only (hCodesIdeal := hCodesIdeal) (hReferenceIdeal := hReferenceIdeal) (hOn_codes_only := hOn_codes_only)
-- ==== On_codes_only.lean ====
abbrev S1024x256 : Shape := ⟨2, ![1024, 256]⟩
abbrev S1024x32768 : Shape := ⟨2, ![1024, 32768]⟩
abbrev S66x32768 : Shape := ⟨2, ![66, 32768]⟩
abbrev S32768 : Shape := ⟨1, ![32768]⟩
abbrev S32768x256 : Shape := ⟨2, ![32768, 256]⟩
abbrev S264x32768 : Shape := ⟨2, ![264, 32768]⟩
abbrev S_ : Shape := ⟨0, ![]⟩

class Facts : Prop where
  bcast_S_S32768 : S_.BroadcastsInDim S32768 (![] : Fin 0 → Fin S32768.rank)
  bcast_S_S264x32768 : S_.BroadcastsInDim S264x32768 (![] : Fin 0 → Fin S264x32768.rank)

variable [Facts]

def fn {F : FTy → Type} [FloatOps F] (main_arg0 : FVec F S1024x256 .f32) (main_arg1 : IVec S1024x32768 8) (main_arg2 : IVec S66x32768 32) (main_arg3 : FVec F S32768 .f32) (main_arg4 : IVec S32768x256 32) : IVec S264x32768 1 × IVec S32768 1 × IVec S32768 1 × IVec S32768 1 :=
  let main_v0 : IVec S264x32768 32 := iotaInDim S264x32768 32 0
  let main_c : IVec S_ 1 := constantI S_ 1 1#1
  let main_v1 : IVec S32768 1 := broadcastInDim S32768 ![] bcast_S_S32768 main_c
  let main_c_0 : IVec S_ 32 := constantI S_ 32 256#32
  let main_v2 : IVec S264x32768 32 := broadcastInDim S264x32768 ![] bcast_S_S264x32768 main_c_0
  let main_v3 : IVec S264x32768 1 := cmpi .slt main_v0 main_v2
  (main_v3, main_v1, main_v1, main_v1)
-- ==== Post_tail_is_packed.lean ====
abbrev S1024x256 : Shape := ⟨2, ![1024, 256]⟩
abbrev S1024x32768 : Shape := ⟨2, ![1024, 32768]⟩
abbrev S66x32768 : Shape := ⟨2, ![66, 32768]⟩
abbrev S32768 : Shape := ⟨1, ![32768]⟩
abbrev S32768x256 : Shape := ⟨2, ![32768, 256]⟩
abbrev S264x32768 : Shape := ⟨2, ![264, 32768]⟩
abbrev S4 : Shape := ⟨1, ![4]⟩
abbrev S4x1 : Shape := ⟨2, ![4, 1]⟩
abbrev S1x32768 : Shape := ⟨2, ![1, 32768]⟩
abbrev S4x32768 : Shape := ⟨2, ![4, 32768]⟩
abbrev S_ : Shape := ⟨0, ![]⟩
abbrev S8x32768 : Shape := ⟨2, ![8, 32768]⟩

class Facts : Prop where
  bcast_S4_S4x1_0 : S4.BroadcastsInDim S4x1 (![0] : Fin 1 → Fin S4x1.rank)
  bcast_S32768_S1x32768_1 : S32768.BroadcastsInDim S1x32768 (![1] : Fin 1 → Fin S1x32768.rank)
  bcast_S1x32768_S4x32768_0_1 : S1x32768.BroadcastsInDim S4x32768 (![0, 1] : Fin 2 → Fin S4x32768.rank)
  bcast_S4x1_S4x32768_0_1 : S4x1.BroadcastsInDim S4x32768 (![0, 1] : Fin 2 → Fin S4x32768.rank)
  bcast_S_S4x32768 : S_.BroadcastsInDim S4x32768 (![] : Fin 0 → Fin S4x32768.rank)
  concatenates_S4x32768_S4x32768_S8x32768_d0 : Shape.Concatenates [S4x32768, S4x32768] S8x32768 0
  slices_S264x32768_S8x32768_256_0 : S264x32768.Slices ![256, 0] S8x32768
  natLt_8_32 : 8 < 32
  reducesTo_S8x32768_S_d0_1 : S8x32768.ReducesTo [0, 1] S_
  h_S_ : 0 < S_.numel

variable [Facts]

noncomputable abbrev lit0 : Fin 4 → BitVec 32 := fun
  | 0 => 0#32 | 1 => 8#32 | 2 => 16#32 | 3 => 24#32
  | _ => 0#32

def fn {F : FTy → Type} [BitOps F] (main_arg0 : FVec F S1024x256 .f32) (main_arg1 : IVec S1024x32768 8) (main_arg2 : IVec S66x32768 32) (main_arg3 : FVec F S32768 .f32) (main_arg4 : IVec S32768x256 32) (main_arg5 : IVec S264x32768 8) (main_arg6 : FVec F S32768 .f32) (main_arg7 : FVec F S32768 .f32) (main_arg8 : FVec F S32768 .f32) : IVec S_ 1 :=
  let main_c : IVec S4 32 := fun i => lit0 (S4.rowMajor i)
  let main_v0 : IVec S4x1 32 := broadcastInDim S4x1 ![0] bcast_S4_S4x1_0 main_c
  let main_v1 : IVec S32768 32 := bitcastToInt main_arg6
  let main_v2 : IVec S1x32768 32 := broadcastInDim S1x32768 ![1] bcast_S32768_S1x32768_1 main_v1
  let main_v3 : IVec S4x32768 32 := broadcastInDim S4x32768 ![0, 1] bcast_S1x32768_S4x32768_0_1 main_v2
  let main_v4 : IVec S4x32768 32 := broadcastInDim S4x32768 ![0, 1] bcast_S4x1_S4x32768_0_1 main_v0
  let main_v5 : IVec S4x32768 32 := Host.shrsi main_v3 main_v4
  let main_c_0 : IVec S_ 32 := constantI S_ 32 255#32
  let main_v6 : IVec S4x32768 32 := broadcastInDim S4x32768 ![] bcast_S_S4x32768 main_c_0
  let main_v7 : IVec S4x32768 32 := andi main_v5 main_v6
  let main_v8 : IVec S32768 32 := bitcastToInt main_arg7
  let main_v9 : IVec S1x32768 32 := broadcastInDim S1x32768 ![1] bcast_S32768_S1x32768_1 main_v8
  let main_v10 : IVec S4x32768 32 := broadcastInDim S4x32768 ![0, 1] bcast_S1x32768_S4x32768_0_1 main_v9
  let main_v11 : IVec S4x32768 32 := broadcastInDim S4x32768 ![0, 1] bcast_S4x1_S4x32768_0_1 main_v0
  let main_v12 : IVec S4x32768 32 := Host.shrsi main_v10 main_v11
  let main_c_1 : IVec S_ 32 := constantI S_ 32 255#32
  let main_v13 : IVec S4x32768 32 := broadcastInDim S4x32768 ![] bcast_S_S4x32768 main_c_1
  let main_v14 : IVec S4x32768 32 := andi main_v12 main_v13
  let main_v15 : IVec S8x32768 32 := (fun a b => concatenate S8x32768 0 [⟨S4x32768, a⟩, ⟨S4x32768, b⟩] concatenates_S4x32768_S4x32768_S8x32768_d0) main_v7 main_v14
  let main_v16 : IVec S8x32768 8 := (extractStridedSlice S8x32768 ![256, 0] · slices_S264x32768_S8x32768_256_0) main_arg5
  let main_v17 : IVec S8x32768 32 := (extui 32 · natLt_8_32) main_v16
  let main_v18 : IVec S8x32768 1 := cmpi .eq main_v17 main_v15
  let main_c_2 : IVec S_ 1 := constantI S_ 1 1#1
  let main_v19 : IVec S_ 1 := (fun x v => Host.reduce IntOp.andi x v reducesTo_S8x32768_S_d0_1 h_S_) main_v18 main_c_2
  main_v19
-- ==== Kernel.lean ====
abbrev S1024x256 : Shape := ⟨2, ![1024, 256]⟩
abbrev S1024x32768 : Shape := ⟨2, ![1024, 32768]⟩
abbrev S66x32768 : Shape := ⟨2, ![66, 32768]⟩
abbrev S32768 : Shape := ⟨1, ![32768]⟩
abbrev S32768x256 : Shape := ⟨2, ![32768, 256]⟩
abbrev S264x32768 : Shape := ⟨2, ![264, 32768]⟩
abbrev S1024x512 : Shape := ⟨2, ![1024, 512]⟩
abbrev S66x512 : Shape := ⟨2, ![66, 512]⟩
abbrev S512 : Shape := ⟨1, ![512]⟩
abbrev S512x256 : Shape := ⟨2, ![512, 256]⟩
abbrev S264x512 : Shape := ⟨2, ![264, 512]⟩
abbrev S768x1024 : Shape := ⟨2, ![768, 1024]⟩
abbrev S256x1024 : Shape := ⟨2, ![256, 1024]⟩
abbrev S768x512 : Shape := ⟨2, ![768, 512]⟩
abbrev S256x512 : Shape := ⟨2, ![256, 512]⟩
abbrev S2x512 : Shape := ⟨2, ![2, 512]⟩
abbrev S1x512 : Shape := ⟨2, ![1, 512]⟩
abbrev S64x512 : Shape := ⟨2, ![64, 512]⟩
abbrev S8x512 : Shape := ⟨2, ![8, 512]⟩

abbrev nBuf : Space → Nat
  | .hbm => 9
  | .vmem => 18
  | .smem => 0
  | _ => 0

abbrev bufTy : (tb : Table) → Fin (tcTables nBuf tb) → BufTy
  | .hbm, ⟨0, _⟩ => ⟨S1024x256, .f32⟩
  | .hbm, ⟨1, _⟩ => ⟨S1024x32768, .i8⟩
  | .hbm, ⟨2, _⟩ => ⟨S66x32768, .i32⟩
  | .hbm, ⟨3, _⟩ => ⟨S32768, .f32⟩
  | .hbm, ⟨4, _⟩ => ⟨S32768x256, .i32⟩
  | .hbm, ⟨5, _⟩ => ⟨S264x32768, .i8⟩
  | .hbm, ⟨6, _⟩ => ⟨S32768, .f32⟩
  | .hbm, ⟨7, _⟩ => ⟨S32768, .f32⟩
  | .hbm, ⟨8, _⟩ => ⟨S32768, .f32⟩
  | .local _ .vmem, ⟨0, _⟩ => ⟨S1024x256, .f32⟩
  | .local _ .vmem, ⟨1, _⟩ => ⟨S1024x512, .i8⟩
  | .local _ .vmem, ⟨2, _⟩ => ⟨S1024x512, .i8⟩
  | .local _ .vmem, ⟨3, _⟩ => ⟨S66x512, .i32⟩
  | .local _ .vmem, ⟨4, _⟩ => ⟨S66x512, .i32⟩
  | .local _ .vmem, ⟨5, _⟩ => ⟨S512, .f32⟩
  | .local _ .vmem, ⟨6, _⟩ => ⟨S512, .f32⟩
  | .local _ .vmem, ⟨7, _⟩ => ⟨S512x256, .i32⟩
  | .local _ .vmem, ⟨8, _⟩ => ⟨S512x256, .i32⟩
  | .local _ .vmem, ⟨9, _⟩ => ⟨S264x512, .i8⟩
  | .local _ .vmem, ⟨10, _⟩ => ⟨S264x512, .i8⟩
  | .local _ .vmem, ⟨11, _⟩ => ⟨S512, .f32⟩
  | .local _ .vmem, ⟨12, _⟩ => ⟨S512, .f32⟩
  | .local _ .vmem, ⟨13, _⟩ => ⟨S512, .f32⟩
  | .local _ .vmem, ⟨14, _⟩ => ⟨S512, .f32⟩
  | .local _ .vmem, ⟨15, _⟩ => ⟨S512, .f32⟩
  | .local _ .vmem, ⟨16, _⟩ => ⟨S512, .f32⟩
  | .local _ .vmem, ⟨17, _⟩ => ⟨S768x1024, .bf16⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [BitOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 1 → Nat :=
  let arg0 : BitVec 32 := BitVec.ofNat 32 (i 0).val
  let c0_i32 : BitVec 32 := 0#32
  ![arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 1 → Nat :=
  let arg0 : BitVec 32 := BitVec.ofNat 32 (i 0).val
  let c0_i32 : BitVec 32 := 0#32
  ![arg0.toNat]

def cc0_transform_7 (i : grid0.Coords) : Fin 1 → Nat :=
  let arg0 : BitVec 32 := BitVec.ofNat 32 (i 0).val
  let c0_i32 : BitVec 32 := 0#32
  ![arg0.toNat]

def cc0_transform_8 (i : grid0.Coords) : Fin 1 → Nat :=
  let arg0 : BitVec 32 := BitVec.ofNat 32 (i 0).val
  let c0_i32 : BitVec 32 := 0#32
  ![arg0.toNat]

abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S66x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S264x512 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Codes.lean ====
abbrev S1024x256 : Shape := ⟨2, ![1024, 256]⟩
abbrev S1024x32768 : Shape := ⟨2, ![1024, 32768]⟩
abbrev S66x32768 : Shape := ⟨2, ![66, 32768]⟩
abbrev S32768 : Shape := ⟨1, ![32768]⟩
abbrev S32768x256 : Shape := ⟨2, ![32768, 256]⟩
abbrev S264x32768 : Shape := ⟨2, ![264, 32768]⟩
abbrev S1024x512 : Shape := ⟨2, ![1024, 512]⟩
abbrev S66x512 : Shape := ⟨2, ![66, 512]⟩
abbrev S512 : Shape := ⟨1, ![512]⟩
abbrev S512x256 : Shape := ⟨2, ![512, 256]⟩
abbrev S264x512 : Shape := ⟨2, ![264, 512]⟩
abbrev S768x1024 : Shape := ⟨2, ![768, 1024]⟩
abbrev S256x1024 : Shape := ⟨2, ![256, 1024]⟩
abbrev S768x512 : Shape := ⟨2, ![768, 512]⟩
abbrev S256x512 : Shape := ⟨2, ![256, 512]⟩
abbrev S2x512 : Shape := ⟨2, ![2, 512]⟩
abbrev S1x512 : Shape := ⟨2, ![1, 512]⟩
abbrev S64x512 : Shape := ⟨2, ![64, 512]⟩
abbrev S8x512 : Shape := ⟨2, ![8, 512]⟩

abbrev nBuf : Space → Nat
  | .hbm => 9
  | .vmem => 18
  | .smem => 0
  | _ => 0

abbrev bufTy : (tb : Table) → Fin (tcTables nBuf tb) → BufTy
  | .hbm, ⟨0, _⟩ => ⟨S1024x256, .f32⟩
  | .hbm, ⟨1, _⟩ => ⟨S1024x32768, .i8⟩
  | .hbm, ⟨2, _⟩ => ⟨S66x32768, .i32⟩
  | .hbm, ⟨3, _⟩ => ⟨S32768, .f32⟩
  | .hbm, ⟨4, _⟩ => ⟨S32768x256, .i32⟩
  | .hbm, ⟨5, _⟩ => ⟨S264x32768, .i8⟩
  | .hbm, ⟨6, _⟩ => ⟨S32768, .f32⟩
  | .hbm, ⟨7, _⟩ => ⟨S32768, .f32⟩
  | .hbm, ⟨8, _⟩ => ⟨S32768, .f32⟩
  | .local _ .vmem, ⟨0, _⟩ => ⟨S1024x256, .f32⟩
  | .local _ .vmem, ⟨1, _⟩ => ⟨S1024x512, .i8⟩
  | .local _ .vmem, ⟨2, _⟩ => ⟨S1024x512, .i8⟩
  | .local _ .vmem, ⟨3, _⟩ => ⟨S66x512, .i32⟩
  | .local _ .vmem, ⟨4, _⟩ => ⟨S66x512, .i32⟩
  | .local _ .vmem, ⟨5, _⟩ => ⟨S512, .f32⟩
  | .local _ .vmem, ⟨6, _⟩ => ⟨S512, .f32⟩
  | .local _ .vmem, ⟨7, _⟩ => ⟨S512x256, .i32⟩
  | .local _ .vmem, ⟨8, _⟩ => ⟨S512x256, .i32⟩
  | .local _ .vmem, ⟨9, _⟩ => ⟨S264x512, .i8⟩
  | .local _ .vmem, ⟨10, _⟩ => ⟨S264x512, .i8⟩
  | .local _ .vmem, ⟨11, _⟩ => ⟨S512, .f32⟩
  | .local _ .vmem, ⟨12, _⟩ => ⟨S512, .f32⟩
  | .local _ .vmem, ⟨13, _⟩ => ⟨S512, .f32⟩
  | .local _ .vmem, ⟨14, _⟩ => ⟨S512, .f32⟩
  | .local _ .vmem, ⟨15, _⟩ => ⟨S512, .f32⟩
  | .local _ .vmem, ⟨16, _⟩ => ⟨S512, .f32⟩
  | .local _ .vmem, ⟨17, _⟩ => ⟨S768x1024, .bf16⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 1 → Nat :=
  let arg0 : BitVec 32 := BitVec.ofNat 32 (i 0).val
  let c0_i32 : BitVec 32 := 0#32
  ![arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 1 → Nat :=
  let arg0 : BitVec 32 := BitVec.ofNat 32 (i 0).val
  let c0_i32 : BitVec 32 := 0#32
  ![arg0.toNat]

def cc0_transform_7 (i : grid0.Coords) : Fin 1 → Nat :=
  let arg0 : BitVec 32 := BitVec.ofNat 32 (i 0).val
  let c0_i32 : BitVec 32 := 0#32
  ![arg0.toNat]

def cc0_transform_8 (i : grid0.Coords) : Fin 1 → Nat :=
  let arg0 : BitVec 32 := BitVec.ofNat 32 (i 0).val
  let c0_i32 : BitVec 32 := 0#32
  ![arg0.toNat]

abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S66x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S264x512 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S1024x256 : Shape := ⟨2, ![1024, 256]⟩
abbrev S1024x32768 : Shape := ⟨2, ![1024, 32768]⟩
abbrev S66x32768 : Shape := ⟨2, ![66, 32768]⟩
abbrev S32768 : Shape := ⟨1, ![32768]⟩
abbrev S32768x256 : Shape := ⟨2, ![32768, 256]⟩
abbrev S4 : Shape := ⟨1, ![4]⟩
abbrev S32768x1024 : Shape := ⟨2, ![32768, 1024]⟩
abbrev S32768x66 : Shape := ⟨2, ![32768, 66]⟩
abbrev S32768x64 : Shape := ⟨2, ![32768, 64]⟩
abbrev S32768x64x1 : Shape := ⟨3, ![32768, 64, 1]⟩
abbrev S1x1x4 : Shape := ⟨3, ![1, 1, 4]⟩
abbrev S32768x64x4 : Shape := ⟨3, ![32768, 64, 4]⟩
abbrev S_ : Shape := ⟨0, ![]⟩
abbrev S32768x1 : Shape := ⟨2, ![32768, 1]⟩
abbrev S32768x8 : Shape := ⟨2, ![32768, 8]⟩
abbrev S32768x264 : Shape := ⟨2, ![32768, 264]⟩
abbrev S264x32768 : Shape := ⟨2, ![264, 32768]⟩

abbrev nBuf : Space → Nat
  | .hbm => 96
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S1024x32768, .i8⟩
  | .hbm, ⟨2, _⟩ => ⟨S66x32768, .i32⟩
  | .hbm, ⟨3, _⟩ => ⟨S32768, .f32⟩
  | .hbm, ⟨4, _⟩ => ⟨S32768x256, .i32⟩
  | .hbm, ⟨5, _⟩ => ⟨S4, .i32⟩
  | .hbm, ⟨6, _⟩ => ⟨S1024x32768, .i32⟩
  | .hbm, ⟨7, _⟩ => ⟨S1024x32768, .i32⟩
  | .hbm, ⟨8, _⟩ => ⟨S1024x32768, .f32⟩
  | .hbm, ⟨9, _⟩ => ⟨S32768x1024, .f32⟩
  | .hbm, ⟨10, _⟩ => ⟨S32768x256, .f32⟩
  | .hbm, ⟨11, _⟩ => ⟨S32768x66, .i32⟩
  | .hbm, ⟨12, _⟩ => ⟨S32768x64, .i32⟩
  | .hbm, ⟨13, _⟩ => ⟨S32768x64x1, .i32⟩
  | .hbm, ⟨14, _⟩ => ⟨S1x1x4, .i32⟩
  | .hbm, ⟨15, _⟩ => ⟨S32768x64x4, .i32⟩
  | .hbm, ⟨16, _⟩ => ⟨S32768x64x4, .i32⟩
  | .hbm, ⟨17, _⟩ => ⟨S32768x64x4, .i32⟩
  | .hbm, ⟨18, _⟩ => ⟨S_, .i32⟩
  | .hbm, ⟨19, _⟩ => ⟨S32768x64x4, .i32⟩
  | .hbm, ⟨20, _⟩ => ⟨S32768x64x4, .i32⟩
  | .hbm, ⟨21, _⟩ => ⟨S32768x256, .i32⟩
  | .hbm, ⟨22, _⟩ => ⟨S32768x1, .i32⟩
  | .hbm, ⟨23, _⟩ => ⟨S32768, .i32⟩
  | .hbm, ⟨24, _⟩ => ⟨S32768, .f32⟩
  | .hbm, ⟨25, _⟩ => ⟨S32768x1, .i32⟩
  | .hbm, ⟨26, _⟩ => ⟨S32768, .i32⟩
  | .hbm, ⟨27, _⟩ => ⟨S32768, .f32⟩
  | .hbm, ⟨28, _⟩ => ⟨S32768x256, .f32⟩
  | .hbm, ⟨29, _⟩ => ⟨S32768x1, .f32⟩
  | .hbm, ⟨30, _⟩ => ⟨S32768x256, .f32⟩
  | .hbm, ⟨31, _⟩ => ⟨S32768x256, .f32⟩
  | .hbm, ⟨32, _⟩ => ⟨S32768x1, .f32⟩
  | .hbm, ⟨33, _⟩ => ⟨S32768x256, .f32⟩
  | .hbm, ⟨34, _⟩ => ⟨S32768x256, .f32⟩
  | .hbm, ⟨35, _⟩ => ⟨S32768x256, .f32⟩
  | .hbm, ⟨36, _⟩ => ⟨S_, .f32⟩
  | .hbm, ⟨37, _⟩ => ⟨S32768, .f32⟩
  | .hbm, ⟨38, _⟩ => ⟨S_, .f32⟩
  | .hbm, ⟨39, _⟩ => ⟨S32768, .f32⟩
  | .hbm, ⟨40, _⟩ => ⟨S32768, .f32⟩
  | .hbm, ⟨41, _⟩ => ⟨S32768, .f32⟩
  | .hbm, ⟨42, _⟩ => ⟨S32768, .f32⟩
  | .hbm, ⟨43, _⟩ => ⟨S_, .f32⟩
  | .hbm, ⟨44, _⟩ => ⟨S32768, .f32⟩
  | .hbm, ⟨45, _⟩ => ⟨S32768, .f32⟩
  | .hbm, ⟨46, _⟩ => ⟨S_, .f32⟩
  | .hbm, ⟨47, _⟩ => ⟨S32768, .f32⟩
  | .hbm, ⟨48, _⟩ => ⟨S32768, .f32⟩
  | .hbm, ⟨49, _⟩ => ⟨S32768x1, .f32⟩
  | .hbm, ⟨50, _⟩ => ⟨S32768x256, .f32⟩
  | .hbm, ⟨51, _⟩ => ⟨S32768x256, .f32⟩
  | .hbm, ⟨52, _⟩ => ⟨S32768x256, .f32⟩
  | .hbm, ⟨53, _⟩ => ⟨S_, .f32⟩
  | .hbm, ⟨54, _⟩ => ⟨S32768, .f32⟩
  | .hbm, ⟨55, _⟩ => ⟨S_, .f32⟩
  | .hbm, ⟨56, _⟩ => ⟨S32768, .f32⟩
  | .hbm, ⟨57, _⟩ => ⟨S32768, .f32⟩
  | .hbm, ⟨58, _⟩ => ⟨S_, .f32⟩
  | .hbm, ⟨59, _⟩ => ⟨S32768, .f32⟩
  | .hbm, ⟨60, _⟩ => ⟨S32768, .f32⟩
  | .hbm, ⟨61, _⟩ => ⟨S_, .f32⟩
  | .hbm, ⟨62, _⟩ => ⟨S32768, .f32⟩
  | .hbm, ⟨63, _⟩ => ⟨S32768, .f32⟩
  | .hbm, ⟨64, _⟩ => ⟨S_, .f32⟩
  | .hbm, ⟨65, _⟩ => ⟨S32768, .f32⟩
  | .hbm, ⟨66, _⟩ => ⟨S32768, .f32⟩
  | .hbm, ⟨67, _⟩ => ⟨S32768x1, .f32⟩
  | .hbm, ⟨68, _⟩ => ⟨S32768x256, .f32⟩
  | .hbm, ⟨69, _⟩ => ⟨S32768x256, .f32⟩
  | .hbm, ⟨70, _⟩ => ⟨S32768x1, .f32⟩
  | .hbm, ⟨71, _⟩ => ⟨S32768x256, .f32⟩
  | .hbm, ⟨72, _⟩ => ⟨S32768x256, .f32⟩
  | .hbm, ⟨73, _⟩ => ⟨S_, .i32⟩
  | .hbm, ⟨74, _⟩ => ⟨S32768x256, .i32⟩
  | .hbm, ⟨75, _⟩ => ⟨S32768x256, .i32⟩
  | .hbm, ⟨76, _⟩ => ⟨S32768x256, .f32⟩
  | .hbm, ⟨77, _⟩ => ⟨S_, .f32⟩
  | .hbm, ⟨78, _⟩ => ⟨S32768x256, .f32⟩
  | .hbm, ⟨79, _⟩ => ⟨S32768x256, .f32⟩
  | .hbm, ⟨80, _⟩ => ⟨S32768x256, .f32⟩
  | .hbm, ⟨81, _⟩ => ⟨S32768x256, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S32768x256, .f32⟩
  | .hbm, ⟨86, _⟩ => ⟨S32768x256, .f32⟩
  | .hbm, ⟨87, _⟩ => ⟨S_, .f32⟩
  | .hbm, ⟨88, _⟩ => ⟨S32768x256, .f32⟩
  | .hbm, ⟨89, _⟩ => ⟨S32768x256, .f32⟩
  | .hbm, ⟨90, _⟩ => ⟨S32768x256, .i32⟩
  | .hbm, ⟨91, _⟩ => ⟨S32768x256, .i8⟩
  | .hbm, ⟨92, _⟩ => ⟨S_, .i8⟩
  | .hbm, ⟨93, _⟩ => ⟨S32768x8, .i8⟩
  | .hbm, ⟨94, _⟩ => ⟨S32768x264, .i8⟩
  | .hbm, ⟨95, _⟩ => ⟨S264x32768, .i8⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst : Ref sig .tc := ⟨.hbm, 36, rfl⟩
abbrev main_v29 : Ref sig .tc := ⟨.hbm, 37, rfl⟩
abbrev main_cst_1 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_2 : Ref sig .tc := ⟨.hbm, 43, rfl⟩
abbrev main_v34 : Ref sig .tc := ⟨.hbm, 44, rfl⟩
abbrev main_v35 : Ref sig .tc := ⟨.hbm, 45, rfl⟩
abbrev main_cst_3 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_4 : Ref sig .tc := ⟨.hbm, 53, rfl⟩
abbrev main_v42 : Ref sig .tc := ⟨.hbm, 54, rfl⟩
abbrev main_cst_5 : Ref sig .tc := ⟨.hbm, 55, rfl⟩
abbrev main_v43 : Ref sig .tc := ⟨.hbm, 56, rfl⟩
abbrev main_v44 : Ref sig .tc := ⟨.hbm, 57, rfl⟩
abbrev main_cst_6 : Ref sig .tc := ⟨.hbm, 58, rfl⟩
abbrev main_v45 : Ref sig .tc := ⟨.hbm, 59, rfl⟩
abbrev main_v46 : Ref sig .tc := ⟨.hbm, 60, rfl⟩
abbrev main_cst_7 : Ref sig .tc := ⟨.hbm, 61, rfl⟩
abbrev main_v47 : Ref sig .tc := ⟨.hbm, 62, rfl⟩
abbrev main_v48 : Ref sig .tc := ⟨.hbm, 63, rfl⟩
abbrev main_cst_8 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_c_9 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_10 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_cst_11 : Ref sig .tc := ⟨.hbm, 82, rfl⟩
abbrev main_cst_12 : Ref sig .tc := ⟨.hbm, 83, rfl⟩
abbrev main_call0_v0 : Ref sig .tc := ⟨.hbm, 84, rfl⟩
abbrev main_call0_v1 : Ref sig .tc := ⟨.hbm, 85, rfl⟩
abbrev main_call0_v2 : Ref sig .tc := ⟨.hbm, 86, rfl⟩
abbrev main_call0_v3 : Ref sig .tc := ⟨.hbm, 87, rfl⟩
abbrev main_call0_v4 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_c_13 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩

abbrev nD : Nat := 1
abbrev τ : Topo := Topo.v7x

variable {F : FTy → Type} [FloatOps F]
-- ==== Proof.Tiles.lean ====
/- The four result arrays of the row update, written as functions of the five argument arrays, for any float values.

   The kernel's grid has 64 points; point `t` works on the 512 columns `512 t, …, 512 t + 511` ("slots") and every
   array is cut along its slot axis accordingly.  This module names the tiles of the arguments, what the scratch holds
   (the gradient split into three bfloat16 parts), what one point computes from its tiles, and the arrays that are put
   together from the 64 points' results.  All of it is stated over the payload terms of the printed kernel body. -/
module

public import proofs.«01_k».proof.Proof.Gen.Codes.Skeleton
public import Idealize.ShloMosaic.Lib.Pipeline.ValueKit
public import Idealize.ShloMosaic.Lib.Pointwise

@[expose] public section

set_option maxRecDepth 16384

noncomputable section

namespace Cert.Update

open Idealize.SL.Sem Idealize.ShloMosaic Idealize.ShloMosaic.Pointwise Cert.Codes Cert.Codes.Gen

/-! ## Slots and tiles -/

/-- Slot `l` of tile `t`. -/
def slot (t : Fin 64) (l : Fin 512) : Fin 32768 := ⟨512 * t.val + l.val, by omega⟩

/-- A family over tiles and places in a tile, read at a slot. -/
def untile {α : Type} (f : Fin 64 → Fin 512 → α) (s : Fin 32768) : α :=
  f ⟨s.val / 512, by omega⟩ ⟨s.val % 512, by omega⟩

/-- At slot `l` of tile `t` the family is read at `t`, `l`. -/
theorem untile_of {α : Type} (f : Fin 64 → Fin 512 → α) (s : Fin 32768) (t : Fin 64) (l : Fin 512)
    (h : s.val = 512 * t.val + l.val) : untile f s = f t l := by
  have h1 : (⟨s.val / 512, by omega⟩ : Fin 64) = t := Fin.ext (by show s.val / 512 = t.val; omega)
  have h2 : (⟨s.val % 512, by omega⟩ : Fin 512) = l := Fin.ext (by show s.val % 512 = l.val; omega)
  unfold untile; rw [h1, h2]

/-- Every slot is a slot of its tile. -/
theorem slot_divmod (s : Fin 32768) : slot ⟨s.val / 512, by omega⟩ ⟨s.val % 512, by omega⟩ = s :=
  Fin.ext (by show 512 * (s.val / 512) + s.val % 512 = s.val; omega)

section

variable {F : FTy → Type} [FloatOps F]

/-- Tile `t` of the counts. -/
def countTile (cnt : Vec F S1024x32768 .i8) (t : Fin 64) : Vec F S1024x512 .i8 :=
  fun y => cnt (ix2 (y 0) (slot t (y 1)))

/-- Tile `t` of the gathered rows' words. -/
def wordTile (words : Vec F S66x32768 .i32) (t : Fin 64) : Vec F S66x512 .i32 :=
  fun y => words (ix2 (y 0) (slot t (y 1)))

/-- Tile `t` of the momentum. -/
def momTile (mom : Vec F S32768 .f32) (t : Fin 64) : Vec F S512 .f32 :=
  fun y => mom (ix1 (slot t (y 0)))

/-- Tile `t` of the random words. -/
def randTile (rand : Vec F S32768x256 .i32) (t : Fin 64) : Vec F S512x256 .i32 :=
  fun y => rand (ix2 (slot t (y 0)) (y 1))

/-! ## What one point computes -/

/-- The scratch after the first point: the gradient transposed and split into three bfloat16 parts, one above the
    other — the rounded gradient, the rounded rest, the rest of the rest. -/
def splitGrad (g : Vec F S1024x256 .f32) : Vec F S768x1024 .bf16 :=
  View.canon (Val := Elt F)
    [⟨Rect.unit ![512, 0] ![256, 1024] inb_S768x1024_S256x1024_512_0, k0_pay7 g⟩,
     ⟨Rect.unit ![256, 0] ![256, 1024] inb_S768x1024_S256x1024_256_0, k0_pay6 g⟩,
     ⟨Rect.unit ![0, 0] ![256, 1024] inb_S768x1024_S256x1024_0_0, k0_pay5 g⟩]

/-- The new momentum of tile `t`. -/
def stateTile (g : Vec F S1024x256 .f32) (cnt : Vec F S1024x32768 .i8) (mom : Vec F S32768 .f32) (t : Fin 64) :
    FVec F S1x512 .f32 :=
  k0_pay9 (countTile cnt t) (splitGrad g) (momTile mom t)

/-- The new, not yet quantised rows of tile `t`: each gathered row dequantised, less its step. -/
def rowsTile (g : Vec F S1024x256 .f32) (cnt : Vec F S1024x32768 .i8) (words : Vec F S66x32768 .i32)
    (mom : Vec F S32768 .f32) (t : Fin 64) : FVec F S256x512 .f32 :=
  k0_pay10 (countTile cnt t) (splitGrad g)
    (View.ld (wordTile words t) (Rect.unit ![64, 0] ![2, 512] inb_S66x512_S2x512_64_0))
    (View.ld (wordTile words t) (Rect.unit ![0, 0] ![64, 512] inb_S66x512_S64x512_0_0)) (momTile mom t)

/-! ## The result arrays -/

variable (g : Vec F S1024x256 .f32) (cnt : Vec F S1024x32768 .i8) (words : Vec F S66x32768 .i32)
  (mom : Vec F S32768 .f32) (rand : Vec F S32768x256 .i32)

/-- The new momentum. -/
def stateArr : Vec F S32768 .f32 :=
  fun i => untile (fun t l => k0_pay17 (stateTile g cnt mom t) (ix1 l)) (i 0)

/-- The new scales. -/
def scaleArr : Vec F S32768 .f32 :=
  fun i => untile (fun t l => k0_pay15 (rowsTile g cnt words mom t) (ix1 l)) (i 0)

/-- The new biases. -/
def biasArr : Vec F S32768 .f32 :=
  fun i => untile (fun t l => k0_pay16 (rowsTile g cnt words mom t) (ix1 l)) (i 0)

/-- The new code of row entry `r` at slot `s`. -/
def codeAt (r : Fin 256) (s : Fin 32768) : BitVec 8 :=
  untile (fun t l => k0_pay13 (rowsTile g cnt words mom t) (randTile rand t) (ix2 r l)) s

/-- The rows' bytes: 256 codes, then eight bytes `tail` per slot. -/
def bytesArr (tail : Fin 64 → IVec S8x512 8) : Vec F S264x32768 .i8 :=
  fun i => if h : (i 0).val < 256 then codeAt g cnt words mom rand ⟨(i 0).val, h⟩ (i 1)
    else untile (fun t l => tail t (ix2 ⟨(i 0).val - 256, by have := (i 0).isLt; simp at this; omega⟩ l)) (i 1)

/-! ## The result arrays at a slot of a tile -/

/-- The new momentum at slot `l` of tile `t`. -/
theorem stateArr_of (i : S32768.Idx) (t : Fin 64) (y : S512.Idx)
    (h : (i 0).val = 512 * t.val + (y 0).val) :
    stateArr g cnt mom i = k0_pay17 (stateTile g cnt mom t) y := by
  rw [eq_ix1 y]; exact untile_of _ _ t (y 0) h

/-- The new scale at slot `l` of tile `t`. -/
theorem scaleArr_of (i : S32768.Idx) (t : Fin 64) (y : S512.Idx)
    (h : (i 0).val = 512 * t.val + (y 0).val) :
    scaleArr g cnt words mom i = k0_pay15 (rowsTile g cnt words mom t) y := by
  rw [eq_ix1 y]; exact untile_of _ _ t (y 0) h

/-- The new bias at slot `l` of tile `t`. -/
theorem biasArr_of (i : S32768.Idx) (t : Fin 64) (y : S512.Idx)
    (h : (i 0).val = 512 * t.val + (y 0).val) :
    biasArr g cnt words mom i = k0_pay16 (rowsTile g cnt words mom t) y := by
  rw [eq_ix1 y]; exact untile_of _ _ t (y 0) h

/-- The first 256 bytes of a slot are its codes. -/
theorem bytesArr_code (tail : Fin 64 → IVec S8x512 8) (i : S264x32768.Idx) (t : Fin 64) (y : S256x512.Idx)
    (h0 : (i 0).val = (y 0).val) (h1 : (i 1).val = 512 * t.val + (y 1).val) :
    bytesArr g cnt words mom rand tail i = k0_pay13 (rowsTile g cnt words mom t) (randTile rand t) y := by
  have hy : (y 0).val < 256 := (y 0).isLt
  have h : (i 0).val < 256 := by omega
  have e : (⟨(i 0).val, h⟩ : Fin 256) = y 0 := Fin.ext h0
  unfold bytesArr
  rw [dif_pos h, e, eq_ix2 y]
  exact untile_of _ _ t (y 1) h1

/-- The last eight bytes of a slot are its tail. -/
theorem bytesArr_tail (tail : Fin 64 → IVec S8x512 8) (i : S264x32768.Idx) (t : Fin 64) (y : S8x512.Idx)
    (h0 : (i 0).val = 256 + (y 0).val) (h1 : (i 1).val = 512 * t.val + (y 1).val) :
    bytesArr g cnt words mom rand tail i = tail t y := by
  have h : ¬ (i 0).val < 256 := by omega
  unfold bytesArr
  rw [dif_neg h, eq_ix2 y]
  refine (untile_of _ _ t (y 1) h1).trans (congrArg (tail t) ?_)
  exact congrArg (fun a => ix2 a (y 1)) (Fin.ext (by show (i 0).val - 256 = (y 0).val; omega))

end

end Cert.Update

end
-- ==== Proof.KernelArrays.lean ====
/- The program `Kernel`: its four result arrays after the run are the arrays of `Tiles.lean` at its five arguments. -/
module

public import proofs.«01_k».proof.Proof.Gen.Kernel.Value
public import proofs.«01_k».proof.Proof.Tiles
public import Idealize.ShloMosaic.Lib.Pipeline.ValueKit.Held
public import Idealize.ShloMosaic.Lib.Pipeline.ReadBack

@[expose] public section

set_option maxRecDepth 16384

noncomputable section

namespace Cert.Kernel.Arrays

open Idealize.SL.Sem Idealize.ShloMosaic Idealize.ShloMosaic.TcCoe Idealize.ShloMosaic.Pipeline
open Cert.Kernel Cert.Kernel.Gen Cert.Update

variable {F : FTy → Type} [BitOps F] (m : (ℓ : Loc nD τ sig) → Buf (Elt F) ℓ)

/-- The gradient in memory. -/
abbrev grad (c : Dev nD) : Vec F S1024x256 .f32 := m ((c : Thread nD τ).loc main_arg0)
/-- The counts in memory. -/
abbrev cnt (c : Dev nD) : Vec F S1024x32768 .i8 := m ((c : Thread nD τ).loc main_arg1)
/-- The gathered words in memory. -/
abbrev words (c : Dev nD) : Vec F S66x32768 .i32 := m ((c : Thread nD τ).loc main_arg2)
/-- The momentum in memory. -/
abbrev mom (c : Dev nD) : Vec F S32768 .f32 := m ((c : Thread nD τ).loc main_arg3)
/-- The random words in memory. -/
abbrev rand (c : Dev nD) : Vec F S32768x256 .i32 := m ((c : Thread nD τ).loc main_arg4)

/-! ## The blocks of the arguments -/

/-- A grid point, as a tile number. -/
def tile (t : Fin cfg0.N) : Fin 64 := ⟨t.val, t.isLt⟩

theorem tile_val (t : Fin cfg0.N) : (tile t).val = t.val := rfl

theorem index0 : ∀ t : Fin cfg0.N, win0_0.index t = ![0, 0] := (by decide +kernel : ∀ t : Fin grid0.N, _)
theorem index1 : ∀ t : Fin cfg0.N, win0_1.index t = ![0, t.val] := (by decide +kernel : ∀ t : Fin grid0.N, _)
theorem index2 : ∀ t : Fin cfg0.N, win0_2.index t = ![0, t.val] := (by decide +kernel : ∀ t : Fin grid0.N, _)
theorem index3 : ∀ t : Fin cfg0.N, win0_3.index t = ![t.val] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![0, t.val] := (by decide +kernel : ∀ t : Fin grid0.N, _)
theorem index6 : ∀ t : Fin cfg0.N, win0_6.index t = ![t.val] := (by decide +kernel : ∀ t : Fin grid0.N, _)
theorem index7 : ∀ t : Fin cfg0.N, win0_7.index t = ![t.val] := (by decide +kernel : ∀ t : Fin grid0.N, _)
theorem index8 : ∀ t : Fin cfg0.N, win0_8.index t = ![t.val] := (by decide +kernel : ∀ t : Fin grid0.N, _)

/-- The gradient's block is the gradient at every point; each other argument's block is its tile. -/
theorem iblk0 (c : Dev nD) (t : Fin cfg0.N) : iblk m c 0 t = grad m c := by
  blk_ext! [iblk, V, index0 t]

theorem iblk1 (c : Dev nD) (t : Fin cfg0.N) : iblk m c 1 t = countTile (cnt m c) (tile t) := by
  funext y
  unfold countTile slot tile
  blk_ext! [iblk, V, index1 t]

theorem iblk2 (c : Dev nD) (t : Fin cfg0.N) : iblk m c 2 t = wordTile (words m c) (tile t) := by
  funext y
  unfold wordTile slot tile
  blk_ext! [iblk, V, index2 t]

theorem iblk3 (c : Dev nD) (t : Fin cfg0.N) : iblk m c 3 t = momTile (mom m c) (tile t) := by
  funext y
  unfold momTile slot tile
  blk_ext! [iblk, V, index3 t]

theorem iblk4 (c : Dev nD) (t : Fin cfg0.N) : iblk m c 4 t = randTile (rand m c) (tile t) := by
  funext y
  unfold randTile slot tile
  blk_ext! [iblk, V, index4 t]

/-! ## What each point leaves -/

/-- After every point the scratch holds the split gradient: the first point writes it, the others keep it. -/
theorem scratch_eq (c : Dev nD) (t : Fin cfg0.N) : (outsAt0 m c t.val t.isLt).2.2.2.2 = splitGrad (grad m c) := by
  refine (eq_of_write_hold (fun n h => (outsAt0 m c n h).2.2.2.2) 64
    (fun _ => splitGrad (grad m c)) (fun t h => ?_) (fun t h => ?_) t)
  · rw [outsAt0_A m c t h]; frame_out; exact congrArg splitGrad (iblk0 m c t)
  · rw [outsAt0_B m c t h]; rfl

/-- The first point's load of the scratch, after its three stores, is the split gradient. -/
theorem readCov_split (x : Vec F S1024x256 .f32) : (View.whole cc0_scratch0).readCov (Val := Elt F)
    [⟨Rect.unit ![512, 0] ![256, 1024] inb_S768x1024_S256x1024_512_0, k0_pay7 x⟩,
     ⟨Rect.unit ![256, 0] ![256, 1024] inb_S768x1024_S256x1024_256_0, k0_pay6 x⟩,
     ⟨Rect.unit ![0, 0] ![256, 1024] inb_S768x1024_S256x1024_0_0, k0_pay5 x⟩]
    (Rect.unit ![0, 0] ![768, 1024] inb_S768x1024_S768x1024_0_0).toLoadRect = splitGrad x := by
  rw [View.readCov_eq_canon']
  funext j
  unfold splitGrad
  congr 1
  blk_ext! [Rect.idx_unit_val]

/-- What point `t` leaves in the four output blocks and in the scratch. -/
theorem block (c : Dev nD) (t : Fin cfg0.N) :
    outsAt0 m c t.val t.isLt =
      (View.canon (Val := Elt F)
        [⟨Rect.unit ![256, 0] ![8, 512] inb_S264x512_S8x512_256_0, k0_pay15 (rowsTile (grad m c) (cnt m c) (words m c) (mom m c) (tile t))⟩,
         ⟨Rect.unit ![0, 0] ![256, 512] inb_S264x512_S256x512_0_0,
           k0_pay14 (rowsTile (grad m c) (cnt m c) (words m c) (mom m c) (tile t)) (randTile (rand m c) (tile t))⟩],
       k0_pay16 (rowsTile (grad m c) (cnt m c) (words m c) (mom m c) (tile t)),
       k0_pay17 (rowsTile (grad m c) (cnt m c) (words m c) (mom m c) (tile t)),
       k0_pay18 (stateTile (grad m c) (cnt m c) (mom m c) (tile t)),
       splitGrad (grad m c)) := by
  refine Prod.ext ?_ (Prod.ext ?_ (Prod.ext ?_ (Prod.ext ?_ ?_))) <;> dsimp only
  rotate_left 4
  · exact scratch_eq m c t
  all_goals
    by_cases h : t.val % 64 = 0
    · rw [outsAt0_A m c t h]
      frame_out
      rw [readCov_split]
      simp only [iblk0, iblk1, iblk2, iblk3, iblk4]; rfl
    · rw [outsAt0_B m c t h]
      frame_out
      simp only [read_unread_whole]
      rw [scratch_eq m c ⟨t.val - 1, Nat.lt_of_le_of_lt (Nat.sub_le _ _) t.isLt⟩]
      simp only [iblk0, iblk1, iblk2, iblk3, iblk4]; rfl

/-! ## The arrays after the run -/

/-- The bytes. -/
theorem bytes_eq (c : Dev nD) : (dats m 0 c).arrAt 5 cfg0.N =
    bytesArr (grad m c) (cnt m c) (words m c) (mom m c) (rand m c)
      (fun t => k0_pay15 (rowsTile (grad m c) (cnt m c) (words m c) (mom m c) t)) := by
  refine (dats m 0 c).arrAt_eq_of_covers 5 _ (by decide +kernel) fun t hf y => ?_
  blk_simp
  rw [after0_5, block]
  canon_tiles x h using View.cover_of_tiledBy _ ![8, 512] (by sl_kernel_rfl) y
  · refine (bytesArr_tail (grad m c) (cnt m c) (words m c) (mom m c) (rand m c)
      (fun t => k0_pay15 (rowsTile (grad m c) (cnt m c) (words m c) (mom m c) t)) _ (tile t) x ?_ ?_).symm
    · blk_simp [index5 t]; omega
    · blk_simp [index5 t, tile_val]; omega
  · refine (bytesArr_code _ _ _ _ _ _ _ (tile t) x ?_ ?_).symm
    · blk_simp [index5 t]; omega
    · blk_simp [index5 t, tile_val]; omega

/-- The scales. -/
theorem scale_eq (c : Dev nD) : (dats m 0 c).arrAt 6 cfg0.N = scaleArr (grad m c) (cnt m c) (words m c) (mom m c) := by
  refine (dats m 0 c).arrAt_eq_of_covers 6 _ (by decide +kernel) fun t hf y => ?_
  blk_simp
  rw [after0_6, block]
  dsimp only
  refine (scaleArr_of _ _ _ _ _ (tile t) y ?_).symm
  blk_simp [index6 t, tile_val]; omega

/-- The biases. -/
theorem bias_eq (c : Dev nD) : (dats m 0 c).arrAt 7 cfg0.N = biasArr (grad m c) (cnt m c) (words m c) (mom m c) := by
  refine (dats m 0 c).arrAt_eq_of_covers 7 _ (by decide +kernel) fun t hf y => ?_
  blk_simp
  rw [after0_7, block]
  dsimp only
  refine (biasArr_of _ _ _ _ _ (tile t) y ?_).symm
  blk_simp [index7 t, tile_val]; omega

/-- The new momentum. -/
theorem state_eq (c : Dev nD) : (dats m 0 c).arrAt 8 cfg0.N = stateArr (grad m c) (cnt m c) (mom m c) := by
  refine (dats m 0 c).arrAt_eq_of_covers 8 _ (by decide +kernel) fun t hf y => ?_
  blk_simp
  rw [after0_8, block]
  dsimp only
  refine (stateArr_of _ _ _ _ (tile t) y ?_).symm
  blk_simp [index8 t, tile_val]; omega

end Cert.Kernel.Arrays

end
-- ==== Proof.CodesArrays.lean ====
/- The program `Codes`: its four result arrays after the run are the arrays of `Tiles.lean` at its five arguments. -/
module

public import proofs.«01_k».proof.Proof.Gen.Codes.Value
public import proofs.«01_k».proof.Proof.Tiles
public import Idealize.ShloMosaic.Lib.Pipeline.ValueKit.Held
public import Idealize.ShloMosaic.Lib.Pipeline.ReadBack

@[expose] public section

set_option maxRecDepth 16384

noncomputable section

namespace Cert.Codes.Arrays

open Idealize.SL.Sem Idealize.ShloMosaic Idealize.ShloMosaic.TcCoe Idealize.ShloMosaic.Pipeline
open Cert.Codes Cert.Codes.Gen Cert.Update

variable {F : FTy → Type} [FloatOps F] (m : (ℓ : Loc nD τ sig) → Buf (Elt F) ℓ)

/-- The gradient in memory. -/
abbrev grad (c : Dev nD) : Vec F S1024x256 .f32 := m ((c : Thread nD τ).loc main_arg0)
/-- The counts in memory. -/
abbrev cnt (c : Dev nD) : Vec F S1024x32768 .i8 := m ((c : Thread nD τ).loc main_arg1)
/-- The gathered words in memory. -/
abbrev words (c : Dev nD) : Vec F S66x32768 .i32 := m ((c : Thread nD τ).loc main_arg2)
/-- The momentum in memory. -/
abbrev mom (c : Dev nD) : Vec F S32768 .f32 := m ((c : Thread nD τ).loc main_arg3)
/-- The random words in memory. -/
abbrev rand (c : Dev nD) : Vec F S32768x256 .i32 := m ((c : Thread nD τ).loc main_arg4)

/-! ## The blocks of the arguments -/

/-- A grid point, as a tile number. -/
def tile (t : Fin cfg0.N) : Fin 64 := ⟨t.val, t.isLt⟩

theorem tile_val (t : Fin cfg0.N) : (tile t).val = t.val := rfl

theorem index0 : ∀ t : Fin cfg0.N, win0_0.index t = ![0, 0] := (by decide +kernel : ∀ t : Fin grid0.N, _)
theorem index1 : ∀ t : Fin cfg0.N, win0_1.index t = ![0, t.val] := (by decide +kernel : ∀ t : Fin grid0.N, _)
theorem index2 : ∀ t : Fin cfg0.N, win0_2.index t = ![0, t.val] := (by decide +kernel : ∀ t : Fin grid0.N, _)
theorem index3 : ∀ t : Fin cfg0.N, win0_3.index t = ![t.val] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![0, t.val] := (by decide +kernel : ∀ t : Fin grid0.N, _)
theorem index6 : ∀ t : Fin cfg0.N, win0_6.index t = ![t.val] := (by decide +kernel : ∀ t : Fin grid0.N, _)
theorem index7 : ∀ t : Fin cfg0.N, win0_7.index t = ![t.val] := (by decide +kernel : ∀ t : Fin grid0.N, _)
theorem index8 : ∀ t : Fin cfg0.N, win0_8.index t = ![t.val] := (by decide +kernel : ∀ t : Fin grid0.N, _)

/-- The gradient's block is the gradient at every point; each other argument's block is its tile. -/
theorem iblk0 (c : Dev nD) (t : Fin cfg0.N) : iblk m c 0 t = grad m c := by
  blk_ext! [iblk, V, index0 t]

theorem iblk1 (c : Dev nD) (t : Fin cfg0.N) : iblk m c 1 t = countTile (cnt m c) (tile t) := by
  funext y
  unfold countTile slot tile
  blk_ext! [iblk, V, index1 t]

theorem iblk2 (c : Dev nD) (t : Fin cfg0.N) : iblk m c 2 t = wordTile (words m c) (tile t) := by
  funext y
  unfold wordTile slot tile
  blk_ext! [iblk, V, index2 t]

theorem iblk3 (c : Dev nD) (t : Fin cfg0.N) : iblk m c 3 t = momTile (mom m c) (tile t) := by
  funext y
  unfold momTile slot tile
  blk_ext! [iblk, V, index3 t]

theorem iblk4 (c : Dev nD) (t : Fin cfg0.N) : iblk m c 4 t = randTile (rand m c) (tile t) := by
  funext y
  unfold randTile slot tile
  blk_ext! [iblk, V, index4 t]

/-! ## What each point leaves -/

/-- After every point the scratch holds the split gradient: the first point writes it, the others keep it. -/
theorem scratch_eq (c : Dev nD) (t : Fin cfg0.N) : (outsAt0 m c t.val t.isLt).2.2.2.2 = splitGrad (grad m c) := by
  refine (eq_of_write_hold (fun n h => (outsAt0 m c n h).2.2.2.2) 64
    (fun _ => splitGrad (grad m c)) (fun t h => ?_) (fun t h => ?_) t)
  · rw [outsAt0_A m c t h]; frame_out; exact congrArg splitGrad (iblk0 m c t)
  · rw [outsAt0_B m c t h]; rfl

/-- The first point's load of the scratch, after its three stores, is the split gradient. -/
theorem readCov_split (x : Vec F S1024x256 .f32) : (View.whole cc0_scratch0).readCov (Val := Elt F)
    [⟨Rect.unit ![512, 0] ![256, 1024] inb_S768x1024_S256x1024_512_0, k0_pay7 x⟩,
     ⟨Rect.unit ![256, 0] ![256, 1024] inb_S768x1024_S256x1024_256_0, k0_pay6 x⟩,
     ⟨Rect.unit ![0, 0] ![256, 1024] inb_S768x1024_S256x1024_0_0, k0_pay5 x⟩]
    (Rect.unit ![0, 0] ![768, 1024] inb_S768x1024_S768x1024_0_0).toLoadRect = splitGrad x := by
  rw [View.readCov_eq_canon']
  funext j
  unfold splitGrad
  congr 1
  blk_ext! [Rect.idx_unit_val]

/-- What point `t` leaves in the four output blocks and in the scratch. -/
theorem block (c : Dev nD) (t : Fin cfg0.N) :
    outsAt0 m c t.val t.isLt =
      (View.canon (Val := Elt F)
        [⟨Rect.unit ![256, 0] ![8, 512] inb_S264x512_S8x512_256_0, k0_pay14⟩,
         ⟨Rect.unit ![0, 0] ![256, 512] inb_S264x512_S256x512_0_0,
           k0_pay13 (rowsTile (grad m c) (cnt m c) (words m c) (mom m c) (tile t)) (randTile (rand m c) (tile t))⟩],
       k0_pay15 (rowsTile (grad m c) (cnt m c) (words m c) (mom m c) (tile t)),
       k0_pay16 (rowsTile (grad m c) (cnt m c) (words m c) (mom m c) (tile t)),
       k0_pay17 (stateTile (grad m c) (cnt m c) (mom m c) (tile t)),
       splitGrad (grad m c)) := by
  refine Prod.ext ?_ (Prod.ext ?_ (Prod.ext ?_ (Prod.ext ?_ ?_))) <;> dsimp only
  rotate_left 4
  · exact scratch_eq m c t
  all_goals
    by_cases h : t.val % 64 = 0
    · rw [outsAt0_A m c t h]
      frame_out
      rw [readCov_split]
      simp only [iblk0, iblk1, iblk2, iblk3, iblk4]; rfl
    · rw [outsAt0_B m c t h]
      frame_out
      simp only [read_unread_whole]
      rw [scratch_eq m c ⟨t.val - 1, Nat.lt_of_le_of_lt (Nat.sub_le _ _) t.isLt⟩]
      simp only [iblk0, iblk1, iblk2, iblk3, iblk4]; rfl

/-! ## The arrays after the run -/

/-- The bytes. -/
theorem bytes_eq (c : Dev nD) : (dats m 0 c).arrAt 5 cfg0.N =
    bytesArr (grad m c) (cnt m c) (words m c) (mom m c) (rand m c) (fun _ => k0_pay14) := by
  refine (dats m 0 c).arrAt_eq_of_covers 5 _ (by decide +kernel) fun t hf y => ?_
  blk_simp
  rw [after0_5, block]
  canon_tiles x h using View.cover_of_tiledBy _ ![8, 512] (by sl_kernel_rfl) y
  · refine (bytesArr_tail (grad m c) (cnt m c) (words m c) (mom m c) (rand m c) (fun _ => k0_pay14) _ (tile t) x ?_ ?_).symm
    · blk_simp [index5 t]; omega
    · blk_simp [index5 t, tile_val]; omega
  · refine (bytesArr_code _ _ _ _ _ _ _ (tile t) x ?_ ?_).symm
    · blk_simp [index5 t]; omega
    · blk_simp [index5 t, tile_val]; omega

/-- The scales. -/
theorem scale_eq (c : Dev nD) : (dats m 0 c).arrAt 6 cfg0.N = scaleArr (grad m c) (cnt m c) (words m c) (mom m c) := by
  refine (dats m 0 c).arrAt_eq_of_covers 6 _ (by decide +kernel) fun t hf y => ?_
  blk_simp
  rw [after0_6, block]
  dsimp only
  refine (scaleArr_of _ _ _ _ _ (tile t) y ?_).symm
  blk_simp [index6 t, tile_val]; omega

/-- The biases. -/
theorem bias_eq (c : Dev nD) : (dats m 0 c).arrAt 7 cfg0.N = biasArr (grad m c) (cnt m c) (words m c) (mom m c) := by
  refine (dats m 0 c).arrAt_eq_of_covers 7 _ (by decide +kernel) fun t hf y => ?_
  blk_simp
  rw [after0_7, block]
  dsimp only
  refine (biasArr_of _ _ _ _ _ (tile t) y ?_).symm
  blk_simp [index7 t, tile_val]; omega

/-- The new momentum. -/
theorem state_eq (c : Dev nD) : (dats m 0 c).arrAt 8 cfg0.N = stateArr (grad m c) (cnt m c) (mom m c) := by
  refine (dats m 0 c).arrAt_eq_of_covers 8 _ (by decide +kernel) fun t hf y => ?_
  blk_simp
  rw [after0_8, block]
  dsimp only
  refine (stateArr_of _ _ _ _ (tile t) y ?_).symm
  blk_simp [index8 t, tile_val]; omega

end Cert.Codes.Arrays

end
-- ==== Proof.Mask.lean ====
/- The mask of the value claims: the rows of the byte array that hold codes. -/
module

public import proofs.«01_k».proof.On_codes_only
public import Idealize.ShloMosaic.Lib.Pointwise

@[expose] public section

set_option maxRecDepth 16384

noncomputable section

namespace Cert.On_codes_only

open Idealize.ShloMosaic

variable {F : FTy → Type} [FloatOps F] [Facts]

/-- The mask of the byte array at an index: set exactly where the row is below 256. -/
theorem fn_apply_iff (x0 : FVec F S1024x256 .f32) (x1 : IVec S1024x32768 8) (x2 : IVec S66x32768 32)
    (x3 : FVec F S32768 .f32) (x4 : IVec S32768x256 32) (i : S264x32768.Idx) :
    (fn x0 x1 x2 x3 x4).1 i = 1#1 ↔ (i 0 : Nat) < 256 := by
  have key : ∀ r < 264, IntOp.cmpi .slt (BitVec.ofNat 32 r) 256#32 = 1#1 ↔ r < 256 := by decide
  show IntOp.cmpi .slt (BitVec.ofNat 32 (i 0 : Nat)) 256#32 = 1#1 ↔ _
  exact key _ (i 0).isLt

end Cert.On_codes_only

end
-- ==== Proof.Bytes.lean ====
/- The bytes of a 32-bit word.

   The kernel takes words apart by reading them at eight bits; the reference shifts and masks.  Both give the same
   byte, widened with zeros. -/
module

public import Idealize.ShloMosaic.Lib.BitcastPair
public import Idealize.ShloMosaic.Lib.Pointwise

@[expose] public section

set_option maxRecDepth 16384

noncomputable section

namespace Cert.Update

open Idealize.SL.Sem Idealize.ShloMosaic Idealize.ShloMosaic.Pointwise

/-- Byte `k` of a word, the lowest first. -/
def byteOf (w : BitVec 32) (k : Nat) : BitVec 8 := w.extractLsb' (8 * k) 8

/-- Words read at eight bits: row `a` of the result is byte `a % 4` of row `a / 4`. -/
theorem bitcast_32_8_ix2 {R r n : Nat} (x : (⟨2, ![r, n]⟩ : Shape).Idx → BitVec 32)
    (h : (⟨2, ![r, n]⟩ : Shape).Bitcasts 32 ⟨2, ![R, n]⟩ 8) (a : Fin R) (l : Fin n) (p : Fin r)
    (hp : p.val = a.val / 4) :
    bitcast ⟨2, ![R, n]⟩ 8 x h (ix2 a l) = byteOf (x (ix2 p l)) (a.val % 4) := by
  apply BitVec.eq_of_getLsbD_eq
  intro q hq
  rw [bitcast_getLsbD x h _ q hq (by decide)]
  have hr : Shape.row (s := ⟨2, ![R, n]⟩) (ix2 a l) = a.val := rfl
  have e1 : (Shape.row (s := ⟨2, ![R, n]⟩) (ix2 a l) * 8 + q) / 32 = a.val / 4 := by rw [hr]; omega
  have e2 : (Shape.row (s := ⟨2, ![R, n]⟩) (ix2 a l) * 8 + q) % 32 = 8 * (a.val % 4) + q := by rw [hr]; omega
  have hlt : ∀ b : Fin (⟨2, ![r, n]⟩ : Shape).rank, b.val + 2 = (⟨2, ![r, n]⟩ : Shape).rank →
      a.val / 4 < (⟨2, ![r, n]⟩ : Shape).size b := fun b hb => by
    match b, hb with
    | ⟨0, _⟩, _ => show a.val / 4 < r; rw [← hp]; exact p.isLt
    | ⟨1, _⟩, hb => exact absurd hb (by show ¬ 1 + 2 = 2; omega)
  rw [h.srcIdx_congr _ e1 _ hlt, e2]
  unfold byteOf
  rw [BitVec.getLsbD_extractLsb']
  simp only [hq, decide_true, Bool.true_and]
  congr 2
  funext c
  match c with
  | ⟨0, _⟩ => exact Fin.ext ((h.srcIdx_row _ _ _ ⟨0, Nat.zero_lt_two⟩ rfl).trans hp.symm)
  | ⟨1, _⟩ => exact Fin.ext (h.srcIdx_other _ _ _ ⟨1, Nat.one_lt_two⟩ (by show ¬ 1 + 2 = 2; omega))

/-- A word shifted right by `8 k` and masked with 255 is its byte `k`, widened with zeros. -/
theorem shift_mask (u : ArithUnit) (w : BitVec 32) (k : Nat) (hk : k < 4) :
    IntOp.andi (IntOp.shrsi u w (BitVec.ofNat 32 (8 * k))) 255#32 = (byteOf w k).setWidth 32 := by
  have hn : (BitVec.ofNat 32 (8 * k)).toNat = 8 * k := by rw [BitVec.toNat_ofNat]; omega
  have hlt : (BitVec.ofNat 32 (8 * k)).toNat < 32 := by omega
  unfold IntOp.shrsi IntOp.andi byteOf
  rw [if_pos hlt, BitVec.sshiftRight', hn]
  apply BitVec.eq_of_getLsbD_eq
  intro i hi
  have h255 : (255#32 : BitVec 32).getLsbD i = decide (i < 8) := by interval_cases i <;> rfl
  rw [BitVec.getLsbD_and, h255, BitVec.getLsbD_setWidth, BitVec.getLsbD_extractLsb', BitVec.getLsbD_sshiftRight]
  by_cases h8 : i < 8
  · have h32 : 8 * k + i < 32 := by omega
    simp [h8, hi, h32]
  · simp [h8]

/-- A byte widened with zeros, read as a signed number, is the byte's number. -/
theorem byte_toInt (b : BitVec 8) : (b.setWidth 32).toInt = (b.toNat : Int) := by
  have := b.isLt
  rw [BitVec.toInt_eq_toNat_of_lt (by rw [BitVec.toNat_setWidth]; omega), BitVec.toNat_setWidth]
  omega

/-- A word shifted right by eight. -/
theorem shift_eight (u : ArithUnit) (q : BitVec 32) : IntOp.shrui u q 8#32 = q >>> 8 := by
  unfold IntOp.shrui
  rw [if_pos (by decide)]
  rfl

/-- A word shifted right by eight, read as a signed number, is its number. -/
theorem shift_eight_toInt (q : BitVec 32) : (q >>> 8).toInt = ((q >>> 8).toNat : Int) := by
  have h : (q >>> 8).toNat = q.toNat / 256 := by rw [BitVec.toNat_ushiftRight, Nat.shiftRight_eq_div_pow]
  have := q.isLt
  exact BitVec.toInt_eq_toNat_of_lt (by omega)

end Cert.Update

end
-- ==== Proof.Tail.lean ====
/- The last eight bytes of a packed row: the bytes of its new scale, then the bytes of its new bias. -/
module

public import proofs.«01_k».proof.Post_tail_is_packed
public import proofs.«01_k».proof.Proof.Gen.Kernel.Skeleton
public import proofs.«01_k».proof.Proof.Tiles
public import proofs.«01_k».proof.Proof.Bytes
public import Idealize.ShloMosaic.Lib.ReduceAll

@[expose] public section

set_option maxRecDepth 16384

noncomputable section

namespace Cert.Update

open Idealize.SL.Sem Idealize.ShloMosaic Idealize.ShloMosaic.Pointwise Cert.Codes Cert.Codes.Gen

variable {F : FTy → Type} [BitOps F]

/-- Byte `r` of the tail of slot `l` that one point writes, for rows `v`: byte `r % 4` of the scale's bits for `r`
    below 4, of the bias's bits from there on. -/
theorem tail_byte (v : FVec F S256x512 .f32) (r : Fin 8) (l : Fin 512) :
    Cert.Kernel.Gen.k0_pay15 v (ix2 r l)
      = byteOf (BitOps.toBits (F := F) (φ := .f32) (if r.val < 4 then k0_pay15 v (ix1 l) else k0_pay16 v (ix1 l))) (r.val % 4) := by
  unfold Cert.Kernel.Gen.k0_pay15
  rw [bitcast_32_8_ix2 _ _ r l ⟨r.val / 4, by omega⟩ rfl]
  congr 1
  unfold k0_pay15 k0_pay16
  pointwise
  split
  · next h =>
    rw [if_pos (show r.val < 4 by omega), show (⟨r.val / 4, h⟩ : Fin 1) = 0 from Subsingleton.elim _ _]
    rfl
  · next h =>
    rw [if_neg (show ¬ r.val < 4 by omega)]
    exact congrArg (fun a => BitOps.toBits (Cert.Kernel.Gen.k0_pay11 v (ix2 a l))) (Subsingleton.elim _ _)

/-- The post-condition of the packed rows: whatever the arguments, the tail of every slot holds the bytes of the new
    scale and of the new bias, so the predicate is true of the four arrays. -/
theorem tail_packed [Cert.Post_tail_is_packed.Facts] (g : Vec F S1024x256 .f32) (cnt : Vec F S1024x32768 .i8)
    (words : Vec F S66x32768 .i32) (mom : Vec F S32768 .f32) (rand : Vec F S32768x256 .i32) :
    Cert.Post_tail_is_packed.fn (F := F) g cnt words mom rand
      (bytesArr g cnt words mom rand (fun t => Cert.Kernel.Gen.k0_pay15 (rowsTile g cnt words mom t)))
      (scaleArr g cnt words mom) (biasArr g cnt words mom) (stateArr g cnt mom) = fun _ => 1#1 := by
  funext j
  unfold Cert.Post_tail_is_packed.fn
  refine Host.reduce_andi_one _ _ _ _ j rfl fun i => ?_
  obtain ⟨r, s, rfl⟩ : ∃ (r : Fin 8) (s : Fin 32768), i = ix2 r s := ⟨i 0, i 1, eq_ix2 i⟩
  have hs : s.val = 512 * (s.val / 512) + s.val % 512 := by omega
  have hs64 : s.val / 512 < 64 := by omega
  have hl : s.val % 512 < 512 := by omega
  have htail := bytesArr_tail g cnt words mom rand (fun t => Cert.Kernel.Gen.k0_pay15 (rowsTile g cnt words mom t))
    (ix2 ⟨256 + r.val, by omega⟩ s) ⟨s.val / 512, hs64⟩ (ix2 r ⟨s.val % 512, hl⟩)
    rfl hs
  have hscale := scaleArr_of g cnt words mom (ix1 s) ⟨s.val / 512, hs64⟩ (ix1 ⟨s.val % 512, hl⟩) hs
  have hbias := biasArr_of g cnt words mom (ix1 s) ⟨s.val / 512, hs64⟩ (ix1 ⟨s.val % 512, hl⟩) hs
  replace htail := htail.trans (tail_byte _ r _)
  pointwise
  rw [IntOp.cmpi_eq, htail, hscale, hbias]
  have shift (k : Fin 4) : Cert.Post_tail_is_packed.lit0 (Cert.Post_tail_is_packed.S4.rowMajor (ix1 k)) = BitVec.ofNat 32 (8 * k.val) := by
    fin_cases k <;> rfl
  simp only [shift]
  split
  · next h =>
    rw [shift_mask _ _ _ h, Nat.mod_eq_of_lt h]
  · next h =>
    rw [shift_mask _ _ _ (by omega), show r.val % 4 = r.val - 4 by omega]

end Cert.Update

end
-- ==== Proof.BitsClaims.lean ====
/- The claims about the words: the kernel against its version without the tail, and the tail. -/
module

public import proofs.«01_k».proof.Defs
public import proofs.«01_k».proof.Proof.Gen.On_codes_only
public import proofs.«01_k».proof.Proof.Gen.Post_tail_is_packed
public import proofs.«01_k».proof.Proof.KernelArrays
public import proofs.«01_k».proof.Proof.CodesArrays
public import proofs.«01_k».proof.Proof.Mask
public import proofs.«01_k».proof.Proof.Tail
public import Idealize.ShloMosaic.Adequacy

@[expose] public section

set_option maxRecDepth 16384

noncomputable section

namespace Cert.Proof

open Idealize.SL.Sem Idealize.ShloMosaic Idealize.ShloMosaic.TcCoe Cert.Update

/-- Below row 256 the byte array is the codes, whatever the tail is. -/
theorem bytesArr_below {F : FTy → Type} [FloatOps F] (g : Vec F Cert.Codes.S1024x256 .f32)
    (cnt : Vec F Cert.Codes.S1024x32768 .i8) (words : Vec F Cert.Codes.S66x32768 .i32) (mom : Vec F Cert.Codes.S32768 .f32)
    (rand : Vec F Cert.Codes.S32768x256 .i32) (tail tail' : Fin 64 → IVec Cert.Codes.S8x512 8) (i : Cert.Codes.S264x32768.Idx)
    (h : (i 0).val < 256) : bytesArr g cnt words mom rand tail i = bytesArr g cnt words mom rand tail' i := by
  unfold bytesArr
  rw [dif_pos h, dif_pos h]

/-- The two kernels run from memories that agree on the arguments: on the mask their results are the same words. -/
theorem bitexact : Cert.bitexact_Kernel_Codes_on_codes_only := by
  intro m g m' g' _ hagree
  refine ⟨fun c => bytesArr (Kernel.Arrays.grad m c) (Kernel.Arrays.cnt m c) (Kernel.Arrays.words m c)
      (Kernel.Arrays.mom m c) (Kernel.Arrays.rand m c) (fun _ => Cert.Codes.Gen.k0_pay14),
    fun c => scaleArr (Kernel.Arrays.grad m c) (Kernel.Arrays.cnt m c) (Kernel.Arrays.words m c) (Kernel.Arrays.mom m c),
    fun c => biasArr (Kernel.Arrays.grad m c) (Kernel.Arrays.cnt m c) (Kernel.Arrays.words m c) (Kernel.Arrays.mom m c),
    fun c => stateArr (Kernel.Arrays.grad m c) (Kernel.Arrays.cnt m c) (Kernel.Arrays.mom m c), ?_, ?_⟩
  · refine (θ_run Cert.Kernel.defs _ _).mono (fun r h c => ?_) (Cert.Kernel.Value.run_blocks (F := Bits) m g)
    obtain ⟨h0, h1, h2, h3, ha⟩ := h c
    refine ⟨fun i hi => ?_, fun i _ => ?_, fun i _ => ?_, fun i _ => ?_, ha⟩
    · rw [h0, Kernel.Arrays.bytes_eq]
      exact bytesArr_below _ _ _ _ _ _ _ i ((Cert.On_codes_only.fn_apply_iff _ _ _ _ _ i).mp hi)
    · rw [h1, Kernel.Arrays.scale_eq]
    · rw [h2, Kernel.Arrays.bias_eq]
    · rw [h3, Kernel.Arrays.state_eq]
  · refine (θ_run Cert.Codes.defs _ _).mono (fun r h c => ?_) (Cert.Codes.Value.run_blocks (F := Bits) m' g')
    obtain ⟨h0, h1, h2, h3, ha⟩ := h c
    obtain ⟨e0, e1, e2, e3, e4⟩ := hagree c
    refine ⟨fun i hi => ?_, fun i _ => ?_, fun i _ => ?_, fun i _ => ?_, ha⟩
    · rw [h0, Codes.Arrays.bytes_eq, Codes.Arrays.grad, Codes.Arrays.cnt, Codes.Arrays.words, Codes.Arrays.mom,
        Codes.Arrays.rand, e0, e1, e2, e3, e4]
    · rw [h1, Codes.Arrays.scale_eq, Codes.Arrays.grad, Codes.Arrays.cnt, Codes.Arrays.words, Codes.Arrays.mom, e0, e1, e2, e3]
    · rw [h2, Codes.Arrays.bias_eq, Codes.Arrays.grad, Codes.Arrays.cnt, Codes.Arrays.words, Codes.Arrays.mom, e0, e1, e2, e3]
    · rw [h3, Codes.Arrays.state_eq, Codes.Arrays.grad, Codes.Arrays.cnt, Codes.Arrays.mom, e0, e1, e3]

/-- After the kernel's run the tail of every slot holds the bytes of the new scale and bias that the run returns. -/
theorem holds : Cert.holds_Kernel_tail_is_packed := by
  intro m g _
  refine (θ_run Cert.Kernel.defs _ _).mono (fun r h c => ?_) (Cert.Kernel.Value.run_blocks (F := Bits) m g)
  obtain ⟨h0, h1, h2, h3, a0, a1, a2, a3, a4⟩ := h c
  refine ⟨a0, a1, a2, a3, a4, ?_⟩
  rw [h0, h1, h2, h3, Kernel.Arrays.bytes_eq, Kernel.Arrays.scale_eq, Kernel.Arrays.bias_eq, Kernel.Arrays.state_eq]
  exact tail_packed _ _ _ _ _

end Cert.Proof

end
-- ==== Proof.CodesIdealArrays.lean ====
/- The program `CodesIdeal`: its four result arrays after the run are the arrays of `Tiles.lean` at its five arguments. -/
module

public import proofs.«01_k».proof.Proof.Gen.CodesIdeal.Value
public import proofs.«01_k».proof.Proof.Tiles
public import Idealize.ShloMosaic.Lib.Pipeline.ValueKit.Held
public import Idealize.ShloMosaic.Lib.Pipeline.ReadBack

@[expose] public section

set_option maxRecDepth 16384

noncomputable section

namespace Cert.CodesIdeal.Arrays

open Idealize.SL.Sem Idealize.ShloMosaic Idealize.ShloMosaic.TcCoe Idealize.ShloMosaic.Pipeline
open Cert.CodesIdeal Cert.CodesIdeal.Gen Cert.Update

variable {F : FTy → Type} [FloatOps F] (m : (ℓ : Loc nD τ sig) → Buf (Elt F) ℓ)

/-- The gradient in memory. -/
abbrev grad (c : Dev nD) : Vec F S1024x256 .f32 := m ((c : Thread nD τ).loc main_arg0)
/-- The counts in memory. -/
abbrev cnt (c : Dev nD) : Vec F S1024x32768 .i8 := m ((c : Thread nD τ).loc main_arg1)
/-- The gathered words in memory. -/
abbrev words (c : Dev nD) : Vec F S66x32768 .i32 := m ((c : Thread nD τ).loc main_arg2)
/-- The momentum in memory. -/
abbrev mom (c : Dev nD) : Vec F S32768 .f32 := m ((c : Thread nD τ).loc main_arg3)
/-- The random words in memory. -/
abbrev rand (c : Dev nD) : Vec F S32768x256 .i32 := m ((c : Thread nD τ).loc main_arg4)

/-! ## The blocks of the arguments -/

/-- A grid point, as a tile number. -/
def tile (t : Fin cfg0.N) : Fin 64 := ⟨t.val, t.isLt⟩

theorem tile_val (t : Fin cfg0.N) : (tile t).val = t.val := rfl

theorem index0 : ∀ t : Fin cfg0.N, win0_0.index t = ![0, 0] := (by decide +kernel : ∀ t : Fin grid0.N, _)
theorem index1 : ∀ t : Fin cfg0.N, win0_1.index t = ![0, t.val] := (by decide +kernel : ∀ t : Fin grid0.N, _)
theorem index2 : ∀ t : Fin cfg0.N, win0_2.index t = ![0, t.val] := (by decide +kernel : ∀ t : Fin grid0.N, _)
theorem index3 : ∀ t : Fin cfg0.N, win0_3.index t = ![t.val] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![0, t.val] := (by decide +kernel : ∀ t : Fin grid0.N, _)
theorem index6 : ∀ t : Fin cfg0.N, win0_6.index t = ![t.val] := (by decide +kernel : ∀ t : Fin grid0.N, _)
theorem index7 : ∀ t : Fin cfg0.N, win0_7.index t = ![t.val] := (by decide +kernel : ∀ t : Fin grid0.N, _)
theorem index8 : ∀ t : Fin cfg0.N, win0_8.index t = ![t.val] := (by decide +kernel : ∀ t : Fin grid0.N, _)

/-- The gradient's block is the gradient at every point; each other argument's block is its tile. -/
theorem iblk0 (c : Dev nD) (t : Fin cfg0.N) : iblk m c 0 t = grad m c := by
  blk_ext! [iblk, V, index0 t]

theorem iblk1 (c : Dev nD) (t : Fin cfg0.N) : iblk m c 1 t = countTile (cnt m c) (tile t) := by
  funext y
  unfold countTile slot tile
  blk_ext! [iblk, V, index1 t]

theorem iblk2 (c : Dev nD) (t : Fin cfg0.N) : iblk m c 2 t = wordTile (words m c) (tile t) := by
  funext y
  unfold wordTile slot tile
  blk_ext! [iblk, V, index2 t]

theorem iblk3 (c : Dev nD) (t : Fin cfg0.N) : iblk m c 3 t = momTile (mom m c) (tile t) := by
  funext y
  unfold momTile slot tile
  blk_ext! [iblk, V, index3 t]

theorem iblk4 (c : Dev nD) (t : Fin cfg0.N) : iblk m c 4 t = randTile (rand m c) (tile t) := by
  funext y
  unfold randTile slot tile
  blk_ext! [iblk, V, index4 t]

/-! ## What each point leaves -/

/-- After every point the scratch holds the split gradient: the first point writes it, the others keep it. -/
theorem scratch_eq (c : Dev nD) (t : Fin cfg0.N) : (outsAt0 m c t.val t.isLt).2.2.2.2 = splitGrad (grad m c) := by
  refine (eq_of_write_hold (fun n h => (outsAt0 m c n h).2.2.2.2) 64
    (fun _ => splitGrad (grad m c)) (fun t h => ?_) (fun t h => ?_) t)
  · rw [outsAt0_A m c t h]; frame_out; exact congrArg splitGrad (iblk0 m c t)
  · rw [outsAt0_B m c t h]; rfl

/-- The first point's load of the scratch, after its three stores, is the split gradient. -/
theorem readCov_split (x : Vec F S1024x256 .f32) : (View.whole cc0_scratch0).readCov (Val := Elt F)
    [⟨Rect.unit ![512, 0] ![256, 1024] inb_S768x1024_S256x1024_512_0, k0_pay7 x⟩,
     ⟨Rect.unit ![256, 0] ![256, 1024] inb_S768x1024_S256x1024_256_0, k0_pay6 x⟩,
     ⟨Rect.unit ![0, 0] ![256, 1024] inb_S768x1024_S256x1024_0_0, k0_pay5 x⟩]
    (Rect.unit ![0, 0] ![768, 1024] inb_S768x1024_S768x1024_0_0).toLoadRect = splitGrad x := by
  rw [View.readCov_eq_canon']
  funext j
  unfold splitGrad
  congr 1
  blk_ext! [Rect.idx_unit_val]

/-- What point `t` leaves in the four output blocks and in the scratch. -/
theorem block (c : Dev nD) (t : Fin cfg0.N) :
    outsAt0 m c t.val t.isLt =
      (View.canon (Val := Elt F)
        [⟨Rect.unit ![256, 0] ![8, 512] inb_S264x512_S8x512_256_0, k0_pay14⟩,
         ⟨Rect.unit ![0, 0] ![256, 512] inb_S264x512_S256x512_0_0,
           k0_pay13 (rowsTile (grad m c) (cnt m c) (words m c) (mom m c) (tile t)) (randTile (rand m c) (tile t))⟩],
       k0_pay15 (rowsTile (grad m c) (cnt m c) (words m c) (mom m c) (tile t)),
       k0_pay16 (rowsTile (grad m c) (cnt m c) (words m c) (mom m c) (tile t)),
       k0_pay17 (stateTile (grad m c) (cnt m c) (mom m c) (tile t)),
       splitGrad (grad m c)) := by
  refine Prod.ext ?_ (Prod.ext ?_ (Prod.ext ?_ (Prod.ext ?_ ?_))) <;> dsimp only
  rotate_left 4
  · exact scratch_eq m c t
  all_goals
    by_cases h : t.val % 64 = 0
    · rw [outsAt0_A m c t h]
      frame_out
      rw [readCov_split]
      simp only [iblk0, iblk1, iblk2, iblk3, iblk4]; rfl
    · rw [outsAt0_B m c t h]
      frame_out
      simp only [read_unread_whole]
      rw [scratch_eq m c ⟨t.val - 1, Nat.lt_of_le_of_lt (Nat.sub_le _ _) t.isLt⟩]
      simp only [iblk0, iblk1, iblk2, iblk3, iblk4]; rfl

/-! ## The arrays after the run -/

/-- The bytes. -/
theorem bytes_eq (c : Dev nD) : (dats m 0 c).arrAt 5 cfg0.N =
    bytesArr (grad m c) (cnt m c) (words m c) (mom m c) (rand m c) (fun _ => k0_pay14) := by
  refine (dats m 0 c).arrAt_eq_of_covers 5 _ (by decide +kernel) fun t hf y => ?_
  blk_simp
  rw [after0_5, block]
  canon_tiles x h using View.cover_of_tiledBy _ ![8, 512] (by sl_kernel_rfl) y
  · refine (bytesArr_tail (grad m c) (cnt m c) (words m c) (mom m c) (rand m c) (fun _ => k0_pay14) _ (tile t) x ?_ ?_).symm
    · blk_simp [index5 t]; omega
    · blk_simp [index5 t, tile_val]; omega
  · refine (bytesArr_code _ _ _ _ _ _ _ (tile t) x ?_ ?_).symm
    · blk_simp [index5 t]; omega
    · blk_simp [index5 t, tile_val]; omega

/-- The scales. -/
theorem scale_eq (c : Dev nD) : (dats m 0 c).arrAt 6 cfg0.N = scaleArr (grad m c) (cnt m c) (words m c) (mom m c) := by
  refine (dats m 0 c).arrAt_eq_of_covers 6 _ (by decide +kernel) fun t hf y => ?_
  blk_simp
  rw [after0_6, block]
  dsimp only
  refine (scaleArr_of _ _ _ _ _ (tile t) y ?_).symm
  blk_simp [index6 t, tile_val]; omega

/-- The biases. -/
theorem bias_eq (c : Dev nD) : (dats m 0 c).arrAt 7 cfg0.N = biasArr (grad m c) (cnt m c) (words m c) (mom m c) := by
  refine (dats m 0 c).arrAt_eq_of_covers 7 _ (by decide +kernel) fun t hf y => ?_
  blk_simp
  rw [after0_7, block]
  dsimp only
  refine (biasArr_of _ _ _ _ _ (tile t) y ?_).symm
  blk_simp [index7 t, tile_val]; omega

/-- The new momentum. -/
theorem state_eq (c : Dev nD) : (dats m 0 c).arrAt 8 cfg0.N = stateArr (grad m c) (cnt m c) (mom m c) := by
  refine (dats m 0 c).arrAt_eq_of_covers 8 _ (by decide +kernel) fun t hf y => ?_
  blk_simp
  rw [after0_8, block]
  dsimp only
  refine (stateArr_of _ _ _ _ (tile t) y ?_).symm
  blk_simp [index8 t, tile_val]; omega

end Cert.CodesIdeal.Arrays

end
-- ==== Proof.Plain.lean ====
/- The row update at extended reals, entry by entry, in plain mathematics: what both programs compute. -/
module

public import Idealize.ShloMosaic.PureOps.Ideal
public import proofs.«01_k».proof.Proof.Bytes

@[expose] public section

set_option maxRecDepth 16384

noncomputable section

namespace Cert.Plain

open Idealize.ShloMosaic Idealize.ShloMosaic.Pointwise Cert.Update

/-! ## Arguments -/

/-- The gradient: an extended real for each of 1024 examples and 256 entries. -/
abbrev Grad := Vec Ideal (⟨2, ![1024, 256]⟩ : Shape) .f32
/-- The counts: an 8-bit integer for each example and slot. -/
abbrev Counts := Vec Ideal (⟨2, ![1024, 32768]⟩ : Shape) .i8
/-- The gathered rows: 66 words for each slot, 64 of codes, then the scale's and the bias's bits. -/
abbrev Words := Vec Ideal (⟨2, ![66, 32768]⟩ : Shape) .i32
/-- The momentum: an extended real for each slot. -/
abbrev Mom := Vec Ideal (⟨1, ![32768]⟩ : Shape) .f32
/-- The random bits: a word for each slot and entry. -/
abbrev Rand := Vec Ideal (⟨2, ![32768, 256]⟩ : Shape) .i32

/-! ## The update -/

/-- The absolute value of a count. -/
def magnitude (b : BitVec 8) : EReal := (((|b.toInt| : ℤ) : ℝ) : EReal)

/-- Entry `r` of the gradient of slot `s`: the examples' gradients, each as often as the slot counts the example. -/
def gradAt (g : Grad) (cnt : Counts) (s : Fin 32768) (r : Fin 256) : EReal :=
  ∑ u : Fin 1024, magnitude (cnt (ix2 u s)) * g (ix2 u r)

/-- The new momentum of slot `s`: the old one plus the mean of the squares of the gradient. -/
def stateAt (g : Grad) (cnt : Counts) (mom : Mom) (s : Fin 32768) : EReal :=
  mom (ix1 s) + (∑ r : Fin 256, gradAt g cnt s r * gradAt g cnt s r) * ((1 / 256 : ℝ) : EReal)

/-- Entry `r` of the gathered row of slot `s`, dequantised: its code times the row's scale, plus the row's bias. -/
def dequantAt (words : Words) (s : Fin 32768) (r : Fin 256) : EReal :=
  ((((byteOf (words (ix2 ⟨r.val / 4, by omega⟩ s)) (r.val % 4)).toNat : ℕ) : ℝ) : EReal)
      * Ideal.ofBits .f32 (words (ix2 64 s))
    + Ideal.ofBits .f32 (words (ix2 65 s))

/-- Entry `r` of the new row of slot `s`: the dequantised entry less its step. -/
def rowAt (g : Grad) (cnt : Counts) (words : Words) (mom : Mom) (s : Fin 32768) (r : Fin 256) : EReal :=
  dequantAt words s r
    - Ideal.div (Ideal.ofBits .f32 0x3CA3D70A#32) (Ideal.sqrt (stateAt g cnt mom s) + Ideal.ofBits .f32 0x322BCC77#32)
      * gradAt g cnt s r

/-! ## The quantiser, of a row's 256 entries -/

/-- The smallest entry. -/
def low (w : Fin 256 → EReal) : EReal := Finset.univ.fold min ⊤ w

/-- The largest entry. -/
def high (w : Fin 256 → EReal) : EReal := Finset.univ.fold max ⊥ w

/-- The range of the entries. -/
def range (w : Fin 256 → EReal) : EReal := high w - low w

/-- The scale: the range over 255. -/
def scaleOf (w : Fin 256 → EReal) : EReal := Ideal.div (range w) (Ideal.ofBits .f32 0x437F0000#32)

/-- The code of entry `r` with the random word `q`: the entry's place in the range, in steps of the scale, plus the
    top 24 bits of the word as a fraction, rounded down and held between 0 and 255. -/
def codeOf (w : Fin 256 → EReal) (q : BitVec 32) (r : Fin 256) : BitVec 8 :=
  (Ideal.fptosi 32 (min (Ideal.ofBits .f32 0x437F0000#32) (max 0
    (Ideal.liftRound Int.floor
      ((w r - low w) * Ideal.div (Ideal.ofBits .f32 0x437F0000#32) (range w + Ideal.ofBits .f32 0x322BCC77#32)
        + (((q >>> 8).toNat : ℝ) : EReal) * Ideal.ofBits .f32 0x33800000#32))))).setWidth 8

end Cert.Plain

end
-- ==== Proof.Constants.lean ====
/- The values of some constants. -/
module

public import Idealize.ShloMosaic.PureOps.Ideal

@[expose] public section

set_option maxRecDepth 16384

noncomputable section

namespace Cert.Plain

open Idealize.ShloMosaic

/-- The word of plus infinity. -/
theorem word_inf : Ideal.ofBits .f32 0x7F800000#32 = (⊤ : EReal) := by
  simp [Ideal.ofBits, Ideal.ieee]

/-- The word of minus infinity. -/
theorem word_neg_inf : Ideal.ofBits .f32 0xFF800000#32 = (⊥ : EReal) := by
  simp [Ideal.ofBits, Ideal.ieee]

/-- The word of 1/256. -/
theorem word_inv256 : Ideal.ofBits .f32 0x3B800000#32 = ((1 / 256 : ℝ) : EReal) := by
  simp [Ideal.ofBits, Ideal.ieee, -EReal.coe_mul]; norm_num

/-- The word of 256. -/
theorem word_256 : Ideal.ofBits .f32 0x43800000#32 = ((256 : ℝ) : EReal) := by
  simp [Ideal.ofBits, Ideal.ieee, -EReal.coe_mul]; norm_num

/-- The word of the number that is added to the square root of the momentum is that of a real number. -/
theorem word_eps : ∃ r : ℝ, Ideal.ofBits .f32 0x322BCC77#32 = (r : EReal) := by
  simp only [Ideal.ofBits, Ideal.ieee]
  simp [-EReal.coe_mul]

end Cert.Plain

end
-- ==== Proof.Infinite.lean ====
/- Sums of extended reals of which a term is infinite, and the step that such a gradient makes: none. -/
module

public import proofs.«01_k».proof.Proof.Plain
public import proofs.«01_k».proof.Proof.Constants

@[expose] public section

noncomputable section

namespace Cert.Plain

open Idealize.ShloMosaic

/-- An infinite extended real. -/
def Infinite (x : EReal) : Prop := x = ⊤ ∨ x = ⊥

/-- An extended real is infinite, or a real number. -/
theorem infinite_or_real (x : EReal) : Infinite x ∨ ∃ r : ℝ, x = (r : EReal) := by
  induction x using EReal.rec with
  | bot => exact .inl (.inr rfl)
  | coe r => exact .inr ⟨r, rfl⟩
  | top => exact .inl (.inl rfl)

/-- A sum of which a term is infinite is infinite. -/
theorem Infinite.add {x : EReal} (h : Infinite x) (y : EReal) : Infinite (x + y) := by
  obtain rfl | rfl := h
  · induction y using EReal.rec with
    | bot => exact .inr rfl
    | coe r => exact .inl (EReal.top_add_coe r)
    | top => exact .inl rfl
  · exact .inr (EReal.bot_add y)

theorem Infinite.sum {ι : Type} [Fintype ι] [DecidableEq ι] {f : ι → EReal} (i : ι) (h : Infinite (f i)) : Infinite (∑ j, f j) := by
  rw [← Finset.add_sum_erase _ _ (Finset.mem_univ i)]
  exact h.add _

/-- A sum of which a term is minus infinity is minus infinity. -/
theorem sum_bot {ι : Type} [Fintype ι] [DecidableEq ι] {f : ι → EReal} (i : ι) (h : f i = ⊥) : ∑ j, f j = ⊥ := by
  rw [← Finset.add_sum_erase _ _ (Finset.mem_univ i), h, EReal.bot_add]

/-- An infinite number less itself is minus infinity. -/
theorem Infinite.sub_self {x : EReal} (h : Infinite x) : x - x = ⊥ := by
  obtain rfl | rfl := h <;> rfl

/-- The square of an infinite number is infinity. -/
theorem Infinite.mul_self {x : EReal} (h : Infinite x) : x * x = ⊤ := by
  obtain rfl | rfl := h
  · exact EReal.top_mul_top
  · exact EReal.bot_mul_bot

/-- A positive multiple of an infinite number is infinite. -/
theorem Infinite.mul {x c : EReal} (h : Infinite x) (hc : 0 < c) : Infinite (c * x) := by
  obtain rfl | rfl := h
  · exact .inl (EReal.mul_top_of_pos hc)
  · exact .inr (EReal.mul_bot_of_pos hc)

/-- A square is not negative. -/
theorem mul_self_nonneg' (x : EReal) : 0 ≤ x * x := by
  obtain h | ⟨r, rfl⟩ := infinite_or_real x
  · rw [h.mul_self]; exact le_top
  · rw [← EReal.coe_mul]; exact EReal.coe_nonneg.mpr (mul_self_nonneg r)

/-- A sum of squares of which one is infinite is infinity. -/
theorem sum_squares_top {ι : Type} [Fintype ι] [DecidableEq ι] {f : ι → EReal} (i : ι) (h : Infinite (f i)) :
    ∑ j, f j * f j = ⊤ := by
  rw [← Finset.add_sum_erase _ _ (Finset.mem_univ i), h.mul_self]
  have : 0 ≤ ∑ j ∈ Finset.univ.erase i, f j * f j := Finset.sum_nonneg fun j _ => mul_self_nonneg' _
  exact EReal.top_add_of_ne_bot (fun e => by rw [e] at this; exact absurd this (by simp))

/-! ## The gradient in three parts -/

/-- The product of counts with a column in three parts: the column, the column less itself, and that difference less
    itself. -/
def splitSum {ι : Type} [Fintype ι] (c x : ι → EReal) : EReal :=
  ∑ u, (x u - x u - (x u - x u)) * c u + ∑ u, (x u - x u) * c u + ∑ u, x u * c u

/-- A count's absolute value is not negative. -/
theorem magnitude_nonneg (b : BitVec 8) : 0 ≤ magnitude b := by
  unfold magnitude
  exact EReal.coe_nonneg.mpr (Int.cast_nonneg (abs_nonneg _))

/-- The product in three parts is the product, unless both are infinite. -/
theorem splitSum_cases {ι : Type} [Fintype ι] [DecidableEq ι] (c x : ι → EReal) (hc : ∀ u, 0 ≤ c u) :
    splitSum c x = ∑ u, c u * x u ∨ Infinite (splitSum c x) ∧ Infinite (∑ u, c u * x u) := by
  by_cases h : ∃ u, Infinite (x u) ∧ 0 < c u
  · obtain ⟨u, hx, hu⟩ := h
    refine .inr ⟨.inr ?_, (hx.mul hu).sum (f := fun u => c u * x u) u⟩
    unfold splitSum
    rw [sum_bot (f := fun u => (x u - x u) * c u) u (by rw [hx.sub_self, EReal.bot_mul_of_pos hu]), EReal.add_bot, EReal.bot_add]
  · have hz (u : ι) : c u = 0 ∨ x u - x u = 0 := by
      obtain hx | ⟨r, hr⟩ := infinite_or_real (x u)
      · exact .inl (le_antisymm (not_lt.mp fun hu => h ⟨u, hx, hu⟩) (hc u))
      · rw [hr]; exact .inr (EReal.sub_self (EReal.coe_ne_top r) (EReal.coe_ne_bot r))
    refine .inl ?_
    have e1 (u : ι) : (x u - x u) * c u = 0 := by
      obtain e | e := hz u <;> simp [e]
    have e2 (u : ι) : (x u - x u - (x u - x u)) * c u = 0 := by
      obtain e | e := hz u <;> simp [e]
    unfold splitSum
    simp only [e1, e2, Finset.sum_const_zero, zero_add]
    exact Finset.sum_congr rfl fun u _ => mul_comm _ _

/-! ## What the update sees of a gradient -/

/-- Two gradients of a row that agree except where both are infinite. -/
def Alike (p q : Fin 256 → EReal) : Prop := ∀ r, p r = q r ∨ Infinite (p r) ∧ Infinite (q r)

/-- Such gradients have the same sum of squares. -/
theorem Alike.sum_squares {p q : Fin 256 → EReal} (h : Alike p q) : ∑ r, p r * p r = ∑ r, q r * q r := by
  refine Finset.sum_congr rfl fun r _ => ?_
  obtain e | ⟨hp, hq⟩ := h r
  · rw [e]
  · rw [hp.mul_self, hq.mul_self]

/-- The step size at an infinite momentum is zero. -/
theorem step_zero (x s e : EReal) (hs : Infinite s) (he : ∃ r : ℝ, e = (r : EReal)) : Ideal.div x (Ideal.sqrt s + e) = 0 := by
  obtain ⟨r, rfl⟩ := he
  have hi : Ideal.sqrt s + (r : EReal) = ⊤ ∨ Ideal.sqrt s + (r : EReal) = ⊥ := by
    obtain rfl | rfl := hs
    · exact .inl (EReal.top_add_coe r)
    · exact .inr (EReal.bot_add _)
  unfold Ideal.div
  obtain e | e := hi
  · rw [e, if_neg (by simp), EReal.inv_top, mul_zero]
  · rw [e, if_neg (by simp), EReal.inv_bot, mul_zero]

/-- Such gradients make the same step, whatever the momentum `m` was: where they are infinite, the step is zero. -/
theorem Alike.step {p q : Fin 256 → EReal} (h : Alike p q) (m x e : EReal) (he : ∃ r : ℝ, e = (r : EReal)) (r : Fin 256) :
    Ideal.div x (Ideal.sqrt (m + (∑ r, q r * q r) * ((1 / 256 : ℝ) : EReal)) + e) * p r =
      Ideal.div x (Ideal.sqrt (m + (∑ r, q r * q r) * ((1 / 256 : ℝ) : EReal)) + e) * q r := by
  obtain e' | ⟨_, hq⟩ := h r
  · rw [e']
  · rw [step_zero x _ e _ he, zero_mul, zero_mul]
    rw [sum_squares_top r hq, EReal.top_mul_coe_of_pos (by norm_num), add_comm]
    exact Infinite.add (.inl rfl) m

end Cert.Plain

end
-- ==== Proof.SplitIdeal.lean ====
/- The scratch at extended reals, and the product of the counts with it. -/
module

public import proofs.«01_k».proof.Proof.Tiles
public import Idealize.ShloMosaic.Lib.Ring
public import proofs.«01_k».proof.Proof.Infinite

@[expose] public section

set_option maxRecDepth 16384

noncomputable section

namespace Cert.Update

open Idealize.SL.Sem Idealize.ShloMosaic Idealize.ShloMosaic.Pointwise Cert.Codes Cert.Codes.Gen Cert.Plain

/-- The scratch: the gradient's columns, then each column less itself, then that difference less itself. -/
theorem splitGrad_ideal (g : Vec Ideal S1024x256 .f32) (y : S768x1024.Idx) :
    splitGrad (F := Ideal) g y =
      let x : EReal := g (ix2 (y 1) ⟨(y 0).val % 256, Nat.mod_lt _ (by omega)⟩)
      if (y 0).val < 256 then x else if (y 0).val < 512 then x - x else x - x - (x - x) := by
  unfold splitGrad
  canon_tiles x h using View.cover_of_tiledBy _ ![256, 1024] (by sl_kernel_rfl) y
  all_goals
    have e : g (ix2 (x 1) (x 0)) = g (ix2 (y 1) ⟨(y 0).val % 256, Nat.mod_lt _ (by omega)⟩) :=
      congrArg₂ (fun a b => g (ix2 a b)) (Fin.ext h1.symm) (Fin.ext (by show (x 0).val = (y 0).val % 256; omega))
    dsimp only
    rw [← e]
  · rw [if_neg (by omega), if_neg (by omega)]
    unfold k0_pay7 k0_pay4 k0_pay3 k0_pay2 k0_pay1
    pointwise
  · rw [if_neg (by omega), if_pos (by omega)]
    unfold k0_pay6 k0_pay4 k0_pay3 k0_pay2 k0_pay1
    pointwise
  · rw [if_pos (by omega)]
    unfold k0_pay5 k0_pay2 k0_pay1
    pointwise

/-- The absolute value of a count, taken of the count as a number. -/
theorem absf_count (φ : FTy) (b : BitVec 8) : FloatOps.absf (F := Ideal) (FloatOps.sitofp (F := Ideal) φ b) = magnitude b := by
  show max ((b.toInt : ℝ) : EReal) (-((b.toInt : ℝ) : EReal)) = _
  unfold magnitude
  rw [← EReal.coe_neg, Int.cast_abs]
  exact (EReal.coe_strictMono.monotone.map_max).symm

/-- The gradient of slot `l` that one point computes: the product of the counts with each part of the scratch, summed. -/
theorem grad_tile (g : Vec Ideal S1024x256 .f32) (c : Vec Ideal S1024x512 .i8) (r : Fin 256) (l : Fin 512) :
    k0_pay8 (F := Ideal) c (splitGrad g) (ix2 r l) = splitSum (fun u => magnitude (c (ix2 u l))) (fun u => g (ix2 u r)) := by
  have e (k u) (h : k < 768) (hk : k % 256 = r.val) : g (ix2 u ⟨k % 256, Nat.mod_lt _ (by omega)⟩) = g (ix2 u r) :=
    congrArg (fun a => g (ix2 u a)) (Fin.ext hk)
  have hi (u : Fin 1024) : splitGrad (F := Ideal) g (ix2 ⟨r.val, by omega⟩ u) = g (ix2 u r) := by
    rw [splitGrad_ideal g, ← e r.val u (by omega) (by omega)]
    exact if_pos r.isLt
  have mid (u : Fin 1024) : splitGrad (F := Ideal) g (ix2 ⟨256 + r.val, by omega⟩ u) = g (ix2 u r) - g (ix2 u r) := by
    rw [splitGrad_ideal g, ← e (256 + r.val) u (by omega) (by omega)]
    exact (if_neg (by show ¬ 256 + r.val < 256; omega)).trans (if_pos (by show 256 + r.val < 512; omega))
  have lo (u : Fin 1024) : splitGrad (F := Ideal) g (ix2 ⟨512 + r.val, by omega⟩ u) =
      g (ix2 u r) - g (ix2 u r) - (g (ix2 u r) - g (ix2 u r)) := by
    rw [splitGrad_ideal g, ← e (512 + r.val) u (by omega) (by omega)]
    exact (if_neg (by show ¬ 512 + r.val < 256; omega)).trans (if_neg (by show ¬ 512 + r.val < 512; omega))
  unfold k0_pay8
  pointwise
  simp only [hi, mid, lo, absf_count]
  rfl

end Cert.Update

end
-- ==== Proof.TileIdeal.lean ====
/- What one grid point computes at extended reals: the plain update at the slots of its tile. -/
module

public import proofs.«01_k».proof.Proof.SplitIdeal
public import proofs.«01_k».proof.Proof.Constants

@[expose] public section

set_option maxRecDepth 16384

noncomputable section

namespace Cert.Update

open Idealize.SL.Sem Idealize.ShloMosaic Idealize.ShloMosaic.Pointwise Cert.Codes Cert.Codes.Gen Cert.Plain

variable (g : Vec Ideal S1024x256 .f32) (cnt : Vec Ideal S1024x32768 .i8)
  (words : Vec Ideal S66x32768 .i32) (mom : Vec Ideal S32768 .f32) (rand : Vec Ideal S32768x256 .i32)

/-- The gradient of slot `l` of tile `t`: the plain one, except at entries where both are infinite. -/
theorem grad_of_tile (t : Fin 64) (l : Fin 512) :
    Alike (fun r => k0_pay8 (F := Ideal) (countTile cnt t) (splitGrad g) (ix2 r l)) (gradAt g cnt (slot t l)) := by
  intro r
  show k0_pay8 (F := Ideal) (countTile cnt t) (splitGrad g) (ix2 r l) = _ ∨
    Infinite (k0_pay8 (F := Ideal) (countTile cnt t) (splitGrad g) (ix2 r l)) ∧ _
  rw [grad_tile]
  exact splitSum_cases _ _ fun u => magnitude_nonneg _

/-- The new momentum of slot `l` of tile `t`. -/
theorem state_of_tile (t : Fin 64) (l : Fin 512) :
    stateTile (F := Ideal) g cnt mom t (ix2 0 l) = stateAt g cnt mom (slot t l) := by
  unfold stateTile k0_pay9
  pointwise
  rw [word_inv256, (grad_of_tile g cnt t l).sum_squares]
  rfl

/-- The new row of slot `l` of tile `t`. -/
theorem rows_of_tile (t : Fin 64) (r : Fin 256) (l : Fin 512) :
    rowsTile (F := Ideal) g cnt words mom t (ix2 r l) = rowAt g cnt words mom (slot t l) r := by
  have hs := state_of_tile g cnt mom t l
  unfold stateTile at hs
  have step := (grad_of_tile g cnt t l).step (mom (ix1 (slot t l))) (Ideal.ofBits .f32 0x3CA3D70A#32) _ word_eps r
  beta_reduce at step
  unfold rowsTile k0_pay10
  pointwise
  rw [hs, stateAt, step, bitcast_32_8_ix2 _ _ r l ⟨r.val / 4, by omega⟩ rfl]
  have hb (b : BitVec 8) : FloatOps.sitofp (F := Ideal) .f32 (b.setWidth 32) = (((b.toNat : ℕ) : ℝ) : EReal) := by
    show (((b.setWidth 32).toInt : ℝ) : EReal) = _
    rw [byte_toInt, Int.cast_natCast]
  rw [hb]
  pointwise
  unfold rowAt dequantAt
  rfl

/-- The bias is the smallest entry of the row. -/
theorem low_of_tile (v : FVec Ideal S256x512 .f32) (l : Fin 512) :
    k0_pay11 (F := Ideal) v (ix2 0 l) = low (fun r => v (ix2 r l)) := by
  unfold k0_pay11
  pointwise
  rw [word_inf]
  rfl

/-- The range of the row. -/
theorem range_of_tile (v : FVec Ideal S256x512 .f32) (l : Fin 512) :
    k0_pay12 (F := Ideal) v (ix2 0 l) = range (fun r => v (ix2 r l)) := by
  unfold k0_pay12
  pointwise
  rw [low_of_tile]
  rw [word_neg_inf]
  rfl

/-- The code. -/
theorem code_of_tile (v : FVec Ideal S256x512 .f32) (q : Vec Ideal S512x256 .i32) (r : Fin 256) (l : Fin 512) :
    k0_pay13 (F := Ideal) v q (ix2 r l) = codeOf (fun r => v (ix2 r l)) (q (ix2 l r)) r := by
  unfold k0_pay13
  pointwise
  rw [low_of_tile, range_of_tile]
  have hq : FloatOps.sitofp (F := Ideal) .f32 (IntOp.shrui .vector (q (ix2 l r)) 8#32)
      = ((((q (ix2 l r) >>> 8).toNat : ℕ) : ℝ) : EReal) := by
    rw [shift_eight]
    show (((q (ix2 l r) >>> 8).toInt : ℝ) : EReal) = _
    rw [shift_eight_toInt, Int.cast_natCast]
  rw [hq]
  rfl

end Cert.Update

end
-- ==== Proof.ArraysIdeal.lean ====
/- The result arrays of the row update at extended reals, slot by slot: the plain update. -/
module

public import proofs.«01_k».proof.Proof.TileIdeal

@[expose] public section

set_option maxRecDepth 16384

noncomputable section

namespace Cert.Update

open Idealize.SL.Sem Idealize.ShloMosaic Idealize.ShloMosaic.Pointwise Cert.Codes Cert.Codes.Gen Cert.Plain

variable (g : Vec Ideal S1024x256 .f32) (cnt : Vec Ideal S1024x32768 .i8)
  (words : Vec Ideal S66x32768 .i32) (mom : Vec Ideal S32768 .f32) (rand : Vec Ideal S32768x256 .i32)

/-- Every slot lies in a tile. -/
theorem exists_slot (s : Fin 32768) : ∃ (t : Fin 64) (l : Fin 512), s = slot t l := ⟨_, _, (slot_divmod s).symm⟩

/-- The rows of tile `t` at slot `l`, as one row. -/
theorem rows_at (t : Fin 64) (l : Fin 512) :
    (fun r => rowsTile (F := Ideal) g cnt words mom t (ix2 r l)) = rowAt g cnt words mom (slot t l) :=
  funext fun r => rows_of_tile g cnt words mom t r l

/-- The new momentum. -/
theorem stateArr_ideal (s : Fin 32768) : stateArr (F := Ideal) g cnt mom (ix1 s) = stateAt g cnt mom s := by
  obtain ⟨t, l, rfl⟩ := exists_slot s
  rw [← state_of_tile g, stateArr_of g cnt mom (ix1 (slot t l)) t (ix1 l) rfl]
  unfold k0_pay17
  pointwise

/-- The new bias: the smallest entry of the new row. -/
theorem biasArr_ideal (s : Fin 32768) :
    biasArr (F := Ideal) g cnt words mom (ix1 s) = low (rowAt g cnt words mom s) := by
  obtain ⟨t, l, rfl⟩ := exists_slot s
  rw [← rows_at g, ← low_of_tile, biasArr_of g cnt words mom (ix1 (slot t l)) t (ix1 l) rfl]
  unfold k0_pay16
  pointwise

/-- The new scale. -/
theorem scaleArr_ideal (s : Fin 32768) :
    scaleArr (F := Ideal) g cnt words mom (ix1 s) = scaleOf (rowAt g cnt words mom s) := by
  obtain ⟨t, l, rfl⟩ := exists_slot s
  unfold scaleOf
  rw [← rows_at g, ← range_of_tile, scaleArr_of g cnt words mom (ix1 (slot t l)) t (ix1 l) rfl]
  unfold k0_pay15
  pointwise

/-- The new codes. -/
theorem codeAt_ideal (r : Fin 256) (s : Fin 32768) :
    codeAt (F := Ideal) g cnt words mom rand r s = codeOf (rowAt g cnt words mom s) (rand (ix2 s r)) r := by
  obtain ⟨t, l, rfl⟩ := exists_slot s
  rw [← rows_at g]
  exact (untile_of _ _ t l rfl).trans (code_of_tile _ _ r l)

end Cert.Update

end
-- ==== Proof.RefArrays.lean ====
/- The reference's result arrays, as terms of its own operations, cut into named steps. -/
module

public import proofs.«01_k».proof.Proof.Gen.ReferenceIdeal.Run
public import proofs.«01_k».proof.Proof.Plain

@[expose] public section

set_option maxRecDepth 16384

noncomputable section

namespace Cert.ReferenceIdeal.Arrays

open Idealize.SL.Sem Idealize.ShloMosaic Idealize.ShloMosaic.TcCoe
open Cert.ReferenceIdeal Cert.ReferenceIdeal.Value Facts₀

variable (g : FVec Ideal S1024x256 .f32) (cnt : IVec S1024x32768 8) (words : IVec S66x32768 32)
  (mom : FVec Ideal S32768 .f32) (rand : IVec S32768x256 32)

/-- The gradient of every slot: the product of the transposed counts and the examples' gradients. -/
def gradArr : FVec Ideal S32768x256 .f32 :=
  Host.dotGeneral dot_S32768x1024_S1024x256_S32768x256_1_0_0_1_n_n none
    (transpose S32768x1024 [1, 0] (sitofp .f32 (absi (extsi 32 cnt natLt_8_32))) transposes_S1024x32768_S32768x1024_1_0) g

/-- The new momentum, for a gradient array `G`. -/
def stateArr (G : FVec Ideal S32768x256 .f32) : FVec Ideal S32768 .f32 :=
  addf mom (Host.divf (Host.reduceAdd (mulf G G) (constant S_ .f32 0x00000000#32) reducesTo_S32768x256_S32768_d1 h_S_)
    (broadcastInDim S32768 ![] bcast_S_S32768 (constant S_ .f32 0x43800000#32)))

/-- A value per slot, repeated along the slot's row. -/
def alongRow (x : FVec Ideal S32768 .f32) : FVec Ideal S32768x256 .f32 :=
  broadcastInDim S32768x256 ![0, 1] bcast_S32768x1_S32768x256_0_1 (broadcastInDim S32768x1 ![0] bcast_S32768_S32768x1_0 x)

/-- The gathered rows' codes, as 32-bit integers. -/
def codeWords : IVec S32768x256 32 :=
  shapeCast _ (andi (Host.shrsi (broadcastInDim S32768x64x4 ![0, 1, 2] bcast_S32768x64x1_S32768x64x4_0_1_2 (broadcastInDim S32768x64x1 ![0, 1] bcast_S32768x64_S32768x64x1_0_1 (extractStridedSlice S32768x64 ![0, 0] (transpose S32768x66 [1, 0] words transposes_S66x32768_S32768x66_1_0) slices_S32768x66_S32768x64_0_0))) (broadcastInDim S32768x64x4 ![0, 1, 2] bcast_S1x1x4_S32768x64x4_0_1_2 (broadcastInDim S1x1x4 ![2] bcast_S4_S1x1x4_2 ((fun i => lit0 (S4.rowMajor i)))))) (broadcastInDim S32768x64x4 ![] bcast_S_S32768x64x4 (constantI S_ 32 255#32))) shapeCasts_S32768x64x4_S32768x256

/-- The gathered rows, dequantised. -/
def dequantArr : FVec Ideal S32768x256 .f32 :=
  addf (mulf (sitofp .f32 (codeWords words))
      (alongRow (bitcastToFloat (F := Ideal) .f32 (shapeCast _ (extractStridedSlice S32768x1 ![0, 64] (transpose S32768x66 [1, 0] words transposes_S66x32768_S32768x66_1_0) slices_S32768x66_S32768x1_0_64) shapeCasts_S32768x1_S32768))))
    (alongRow (bitcastToFloat (F := Ideal) .f32 (shapeCast _ (extractStridedSlice S32768x1 ![0, 65] (transpose S32768x66 [1, 0] words transposes_S66x32768_S32768x66_1_0) slices_S32768x66_S32768x1_0_65) shapeCasts_S32768x1_S32768)))

/-- The new rows, for a gradient array `G` and a new momentum `st`. -/
def rowsArr (G : FVec Ideal S32768x256 .f32) (st : FVec Ideal S32768 .f32) : FVec Ideal S32768x256 .f32 :=
  subf (dequantArr words)
    (mulf (alongRow (Host.divf (broadcastInDim S32768 ![] bcast_S_S32768 (constant S_ .f32 0x3CA3D70A#32)) (addf (Host.sqrt st) (broadcastInDim S32768 ![] bcast_S_S32768 (constant S_ .f32 0x322BCC77#32))))) G)

variable (w : FVec Ideal S32768x256 .f32)

/-- The smallest entry of every row. -/
def lowArr : FVec Ideal S32768 .f32 :=
  Host.reduce FloatOps.minimumf w (constant S_ .f32 0x7F800000#32) reducesTo_S32768x256_S32768_d1 h_S_

/-- The largest entry of every row. -/
def highArr : FVec Ideal S32768 .f32 :=
  Host.reduce FloatOps.maximumf w (constant S_ .f32 0xFF800000#32) reducesTo_S32768x256_S32768_d1 h_S_

/-- The range of every row. -/
def rangeArr : FVec Ideal S32768 .f32 := subf (highArr w) (lowArr w)

/-- The scale of every row, for the rows' ranges `rg`. -/
def scaleOfRange (rg : FVec Ideal S32768 .f32) : FVec Ideal S32768 .f32 :=
  Host.divf rg (broadcastInDim S32768 ![] bcast_S_S32768 (constant S_ .f32 0x437F0000#32))

/-- The scale of every row. -/
def scaleArr : FVec Ideal S32768 .f32 := scaleOfRange (rangeArr w)

/-- The codes of every row, for the rows' smallest entries `lo` and ranges `rg`. -/
def codesOfRange (lo rg : FVec Ideal S32768 .f32) : IVec S32768x256 8 :=
  trunci 8 (fptosi 32 (minimumf (broadcastInDim S32768x256 ![] bcast_S_S32768x256 (id (constant S_ .f32 0x437F0000#32))) (maximumf (broadcastInDim S32768x256 ![] bcast_S_S32768x256 (id (constant S_ .f32 0x00000000#32))) (Host.floor (addf
    (mulf (subf w (alongRow lo))
      (alongRow (Host.divf (broadcastInDim S32768 ![] bcast_S_S32768 (constant S_ .f32 0x437F0000#32)) (addf rg (broadcastInDim S32768 ![] bcast_S_S32768 (constant S_ .f32 0x322BCC77#32))))))
    (mulf (uitofp .f32 (Host.shrui rand (broadcastInDim S32768x256 ![] bcast_S_S32768x256 (constantI S_ 32 8#32)))) (broadcastInDim S32768x256 ![] bcast_S_S32768x256 (constant S_ .f32 0x33800000#32)))))))) natLt_8_32

/-- The codes of every row. -/
def codesArr : IVec S32768x256 8 := codesOfRange rand w (lowArr w) (rangeArr w)

/-- The rows' bytes: the codes and eight zeros, a column per slot. -/
def bytesArr : IVec S264x32768 8 :=
  transpose S264x32768 [1, 0] (concatenate S32768x264 1 [⟨S32768x256, codesArr rand w⟩, ⟨S32768x8, (broadcastInDim S32768x8 ![] bcast_S_S32768x8 (constantI S_ 8 0#8))⟩] concatenates_S32768x256_S32768x8_S32768x264_d1) transposes_S32768x264_S264x32768_1_0

/-- The new rows of the five arguments. -/
def newRows : FVec Ideal S32768x256 .f32 := rowsArr words (gradArr g cnt) (stateArr mom (gradArr g cnt))

/-- After the reference's run its four results are the arrays above of its arguments, which are unchanged. -/
theorem run_arrays (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v69) = bytesArr (m ((c.tc : Thread nD τ).loc main_arg4)) (newRows (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_v46) = scaleArr (newRows (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_v42) = lowArr (newRows (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_v32) = stateArr (m ((c.tc : Thread nD τ).loc main_arg3)) (gradArr (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  have h := run (F := Ideal) m ρ
  unfold res_main_v69 res_main_v46 at h
  exact h

end Cert.ReferenceIdeal.Arrays

end
-- ==== Proof.RefPlain.lean ====
/- The reference's arrays at extended reals, entry by entry: the plain update. -/
module

public import proofs.«01_k».proof.Proof.RefArrays
public import proofs.«01_k».proof.Proof.Constants
public import Idealize.ShloMosaic.Lib.Pointwise

@[expose] public section

set_option maxRecDepth 16384

noncomputable section

namespace Cert.ReferenceIdeal.Arrays

open Idealize.SL.Sem Idealize.ShloMosaic Idealize.ShloMosaic.Pointwise Cert.ReferenceIdeal Cert.Plain Cert.Update

variable (g : FVec Ideal S1024x256 .f32) (cnt : IVec S1024x32768 8) (words : IVec S66x32768 32)
  (mom : FVec Ideal S32768 .f32) (rand : IVec S32768x256 32)

/-- The absolute value of a count, taken of the count as a 32-bit integer. -/
theorem absi_count (b : BitVec 8) :
    FloatOps.sitofp (F := Ideal) .f32 (IntOp.absi (b.signExtend 32)) = magnitude b := by
  have key : ∀ b : BitVec 8, (IntOp.absi (b.signExtend 32)).toInt = |b.toInt| := by decide +kernel
  show (((IntOp.absi (b.signExtend 32)).toInt : ℝ) : EReal) = _
  rw [key]
  rfl

/-- The gradient of a slot. -/
theorem gradArr_at (s : Fin 32768) (r : Fin 256) : gradArr g cnt (ix2 s r) = gradAt g cnt s r := by
  unfold gradArr
  pointwise
  simp only [absi_count]
  rfl

/-- The new momentum of a slot. -/
theorem stateArr_at (s : Fin 32768) : stateArr mom (gradArr g cnt) (ix1 s) = stateAt g cnt mom s := by
  unfold stateArr
  pointwise
  simp only [gradArr_at]
  rw [word_256, Ideal.div_coe (by norm_num)]
  rfl

/-- The codes of a gathered row are the bytes of its words. -/
theorem codeWords_at (s : Fin 32768) (r : Fin 256) :
    codeWords words (ix2 s r) = (byteOf (words (ix2 ⟨r.val / 4, by omega⟩ s)) (r.val % 4)).setWidth 32 := by
  have shift (k : Fin 4) : lit0 (S4.rowMajor (ix1 k)) = BitVec.ofNat 32 (8 * k.val) := by
    fin_cases k <;> rfl
  unfold codeWords
  pointwise
  rw [shift, shift_mask _ _ _ (by omega)]

/-- An entry of a gathered row, dequantised. -/
theorem dequantArr_at (s : Fin 32768) (r : Fin 256) : dequantArr words (ix2 s r) = dequantAt words s r := by
  unfold dequantArr alongRow
  pointwise
  rw [codeWords_at]
  have hb (b : BitVec 8) : FloatOps.sitofp (F := Ideal) .f32 (b.setWidth 32) = (((b.toNat : ℕ) : ℝ) : EReal) := by
    show (((b.setWidth 32).toInt : ℝ) : EReal) = _
    rw [byte_toInt, Int.cast_natCast]
  rw [hb]
  rfl

/-- An entry of a new row. -/
theorem newRows_at (s : Fin 32768) (r : Fin 256) :
    newRows g cnt words mom (ix2 s r) = rowAt g cnt words mom s r := by
  unfold newRows rowsArr alongRow
  pointwise
  rw [stateArr_at, gradArr_at, dequantArr_at]
  rfl

variable (w : FVec Ideal S32768x256 .f32)

/-- The smallest entry of a row. -/
theorem lowArr_at (s : Fin 32768) : lowArr w (ix1 s) = low (fun r => w (ix2 s r)) := by
  unfold lowArr
  pointwise
  rw [word_inf]
  rfl

/-- The largest entry of a row. -/
theorem highArr_at (s : Fin 32768) : highArr w (ix1 s) = high (fun r => w (ix2 s r)) := by
  unfold highArr
  pointwise
  rw [word_neg_inf]
  rfl

/-- A difference at an index. -/
theorem subf_at {s : Shape} (a b : FVec Ideal s .f32) (i : s.Idx) : subf a b i = a i - b i := rfl

/-- The range of a row. -/
theorem rangeArr_at (s : Fin 32768) : rangeArr w (ix1 s) = range (fun r => w (ix2 s r)) := by
  unfold rangeArr
  rw [subf_at, lowArr_at, highArr_at, range]

/-- The scale of a row, of its range. -/
theorem scaleOfRange_at (rg : FVec Ideal S32768 .f32) (s : Fin 32768) :
    scaleOfRange rg (ix1 s) = Ideal.div (rg (ix1 s)) (Ideal.ofBits .f32 0x437F0000#32) := by
  unfold scaleOfRange
  pointwise

/-- The scale of a row. -/
theorem scaleArr_at (s : Fin 32768) : scaleArr w (ix1 s) = scaleOf (fun r => w (ix2 s r)) := by
  unfold scaleArr
  rw [scaleOfRange_at, rangeArr_at, scaleOf]

/-- A code of a row, of its smallest entry and its range. -/
theorem codesOfRange_at (lo rg : FVec Ideal S32768 .f32) (s : Fin 32768) (r : Fin 256) :
    codesOfRange rand w lo rg (ix2 s r) =
      (Ideal.fptosi 32 (min (Ideal.ofBits .f32 0x437F0000#32) (max 0 (Ideal.liftRound Int.floor
        ((w (ix2 s r) - lo (ix1 s)) * Ideal.div (Ideal.ofBits .f32 0x437F0000#32) (rg (ix1 s) + Ideal.ofBits .f32 0x322BCC77#32)
          + (((rand (ix2 s r) >>> 8).toNat : ℝ) : EReal) * Ideal.ofBits .f32 0x33800000#32))))).setWidth 8 := by
  unfold codesOfRange alongRow
  simp only [id_eq]
  pointwise
  rw [shift_eight]
  rfl

/-- A code of a row. -/
theorem codesArr_at (s : Fin 32768) (r : Fin 256) :
    codesArr rand w (ix2 s r) = codeOf (fun r => w (ix2 s r)) (rand (ix2 s r)) r := by
  unfold codesArr
  rw [codesOfRange_at, lowArr_at, rangeArr_at, codeOf]

/-- The bytes of a slot below row 256 are its codes. -/
theorem bytesArr_at (i : S264x32768.Idx) (h : (i 0).val < 256) :
    bytesArr rand w i = codesArr rand w (ix2 (i 1) ⟨(i 0).val, h⟩) := by
  unfold bytesArr
  obtain ⟨a, s, rfl⟩ : ∃ (a : Fin 264) (s : Fin 32768), i = ix2 a s := ⟨i 0, i 1, eq_ix2 i⟩
  pointwise
  exact dif_pos h

end Cert.ReferenceIdeal.Arrays

end
-- ==== Proof.IdealClaims.lean ====
/- The claim about the mathematics: at extended reals the kernel's update and the reference's are the same. -/
module

public import proofs.«01_k».proof.Defs
public import proofs.«01_k».proof.Proof.Gen.On_codes_only
public import proofs.«01_k».proof.Proof.CodesIdealArrays
public import proofs.«01_k».proof.Proof.ArraysIdeal
public import proofs.«01_k».proof.Proof.RefPlain
public import proofs.«01_k».proof.Proof.Mask
public import Idealize.ShloMosaic.Adequacy

@[expose] public section

set_option maxRecDepth 16384

noncomputable section

namespace Cert.Proof

open Idealize.SL.Sem Idealize.ShloMosaic Idealize.ShloMosaic.TcCoe Idealize.ShloMosaic.Pointwise Cert.Update Cert.Plain

/-! ## The four arrays -/

section

variable (g : Grad) (cnt : Counts) (words : Words) (mom : Mom) (rand : Rand)

/-- The rows of the reference at a slot, as one row. -/
theorem reference_row (s : Fin 32768) :
    (fun r => ReferenceIdeal.Arrays.newRows g cnt words mom (ix2 s r)) = rowAt g cnt words mom s :=
  funext fun r => ReferenceIdeal.Arrays.newRows_at g cnt words mom s r

/-- The new momentum of the reference is the kernel's. -/
theorem state_same : ReferenceIdeal.Arrays.stateArr mom (ReferenceIdeal.Arrays.gradArr g cnt) =
    stateArr (F := Ideal) g cnt mom := by
  funext i
  obtain ⟨s, rfl⟩ : ∃ s : Fin 32768, i = ix1 s := ⟨i 0, eq_ix1 i⟩
  rw [ReferenceIdeal.Arrays.stateArr_at, stateArr_ideal g]

/-- The new bias of the reference is the kernel's. -/
theorem bias_same : ReferenceIdeal.Arrays.lowArr (ReferenceIdeal.Arrays.newRows g cnt words mom) =
    biasArr (F := Ideal) g cnt words mom := by
  funext i
  obtain ⟨s, rfl⟩ : ∃ s : Fin 32768, i = ix1 s := ⟨i 0, eq_ix1 i⟩
  rw [ReferenceIdeal.Arrays.lowArr_at, reference_row, biasArr_ideal g]

/-- The new scale of the reference is the kernel's. -/
theorem scale_same : ReferenceIdeal.Arrays.scaleArr (ReferenceIdeal.Arrays.newRows g cnt words mom) =
    scaleArr (F := Ideal) g cnt words mom := by
  funext i
  obtain ⟨s, rfl⟩ : ∃ s : Fin 32768, i = ix1 s := ⟨i 0, eq_ix1 i⟩
  rw [ReferenceIdeal.Arrays.scaleArr_at, reference_row, scaleArr_ideal g]

/-- The new codes of the reference are the kernel's. -/
theorem codes_same (tail : Fin 64 → IVec Cert.Codes.S8x512 8) (i : Cert.Codes.S264x32768.Idx) (h : (i 0).val < 256) :
    ReferenceIdeal.Arrays.bytesArr rand (ReferenceIdeal.Arrays.newRows g cnt words mom) i =
      bytesArr (F := Ideal) g cnt words mom rand tail i := by
  rw [ReferenceIdeal.Arrays.bytesArr_at _ _ i h]
  unfold bytesArr
  rw [dif_pos h]
  exact ((ReferenceIdeal.Arrays.codesArr_at rand _ (i 1) ⟨(i 0).val, h⟩).trans
    (congrArg (fun w => codeOf w (rand (ix2 (i 1) ⟨(i 0).val, h⟩)) ⟨(i 0).val, h⟩) (reference_row g cnt words mom (i 1)))).trans
    (codeAt_ideal g cnt words mom rand ⟨(i 0).val, h⟩ (i 1)).symm

end

/-! ## The claim -/

/-- The idealised kernel and the reference run from memories that agree on the arguments, and
    on the mask their results are the same extended reals and the same codes. -/
theorem algebraic : Cert.algebraic_CodesIdeal_ReferenceIdeal_on_codes_only := by
  intro m g m' g' _ hagree
  refine ⟨fun c => bytesArr (CodesIdeal.Arrays.grad m c) (CodesIdeal.Arrays.cnt m c) (CodesIdeal.Arrays.words m c)
      (CodesIdeal.Arrays.mom m c) (CodesIdeal.Arrays.rand m c) (fun _ => Cert.CodesIdeal.Gen.k0_pay14),
    fun c => scaleArr (CodesIdeal.Arrays.grad m c) (CodesIdeal.Arrays.cnt m c) (CodesIdeal.Arrays.words m c) (CodesIdeal.Arrays.mom m c),
    fun c => biasArr (CodesIdeal.Arrays.grad m c) (CodesIdeal.Arrays.cnt m c) (CodesIdeal.Arrays.words m c) (CodesIdeal.Arrays.mom m c),
    fun c => stateArr (CodesIdeal.Arrays.grad m c) (CodesIdeal.Arrays.cnt m c) (CodesIdeal.Arrays.mom m c), ?_, ?_⟩
  · refine (θ_run Cert.CodesIdeal.defs _ _).mono (fun r h c => ?_) (Cert.CodesIdeal.Value.run_blocks (F := Ideal) m g)
    obtain ⟨h0, h1, h2, h3, ha⟩ := h c
    refine ⟨fun i _ => ?_, fun i _ => ?_, fun i _ => ?_, fun i _ => ?_, ha⟩
    · rw [h0, CodesIdeal.Arrays.bytes_eq]
    · rw [h1, CodesIdeal.Arrays.scale_eq]
    · rw [h2, CodesIdeal.Arrays.bias_eq]
    · rw [h3, CodesIdeal.Arrays.state_eq]
  · refine (θ_run Cert.ReferenceIdeal.defs _ _).mono (fun r h c => ?_) (Cert.ReferenceIdeal.Arrays.run_arrays m' g')
    obtain ⟨h0, h1, h2, h3, ha⟩ := h c
    obtain ⟨e0, e1, e2, e3, e4⟩ := hagree c
    refine ⟨fun i hi => ?_, fun i _ => ?_, fun i _ => ?_, fun i _ => ?_, ha⟩
    · rw [h0, e0, e1, e2, e3, e4]
      exact codes_same _ _ _ _ _ _ i ((Cert.On_codes_only.fn_apply_iff _ _ _ _ _ i).mp hi)
    · rw [h1, e0, e1, e2, e3]
      exact congrFun (scale_same _ _ _ _) i
    · rw [h2, e0, e1, e2, e3]
      exact congrFun (bias_same _ _ _ _) i
    · rw [h3, e0, e1, e3]
      exact congrFun (state_same _ _ _) i

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.Codes
public import proofs.«01_k».proof.Proof.Gen.Codes.Skeleton
public import proofs.«01_k».proof.Proof.Gen.Codes.Launch
public import proofs.«01_k».proof.Proof.Gen.Codes.Points
public import proofs.«01_k».proof.Proof.Gen.Codes.Frame
public import proofs.«01_k».proof.Proof.Gen.CodesIdeal
public import proofs.«01_k».proof.Proof.Gen.CodesIdeal.Skeleton
public import proofs.«01_k».proof.Proof.Gen.CodesIdeal.Launch
public import proofs.«01_k».proof.Proof.Gen.CodesIdeal.Points
public import proofs.«01_k».proof.Proof.Gen.CodesIdeal.Frame
public import proofs.«01_k».proof.Proof.Gen.ReferenceIdeal
public import proofs.«01_k».proof.Proof.Gen.ReferenceIdeal.Run
public import proofs.«01_k».proof.Proof.Gen.Kernel.Value
public import proofs.«01_k».proof.Proof.Gen.Codes.Value
public import proofs.«01_k».proof.Proof.Gen.CodesIdeal.Value
public import proofs.«01_k».proof.Proof.Gen.Post_tail_is_packed
public import proofs.«01_k».proof.Proof.Gen.On_codes_only
public import proofs.«01_k».proof.Proof.BitsClaims
public import proofs.«01_k».proof.Proof.IdealClaims
public import Idealize.ShloMosaic.Adequacy
public import Idealize.ShloMosaic.Init

@[expose] public section

noncomputable section

namespace Cert.Proof

open Idealize.ShloMosaic Idealize.SL.Sem Cert.Kernel

/-- The reference runs, leaves its arguments as they were and every semaphore counter at zero. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0) :=
  (θ_run Cert.ReferenceIdeal.defs _ _).mono
    (fun r h => ⟨fun c => (h c).2.2.2.2, sem_eq_zero_of_no_sems (by decide) r.2⟩)
    (Cert.ReferenceIdeal.Arrays.run_arrays m ρ)

/-- All the claims. -/
theorem claim : Cert.Claim := ⟨Cert.Kernel.Gen.facts, Cert.Codes.Gen.facts, Cert.CodesIdeal.Gen.facts, Cert.ReferenceIdeal.Gen.facts, Cert.Post_tail_is_packed.Gen.facts, Cert.On_codes_only.Gen.facts,
  fun m ρ _ => Cert.Kernel.Gen.frame m ρ,
  fun m ρ _ => Cert.Codes.Gen.frame m ρ,
  fun m ρ _ => Cert.CodesIdeal.Gen.frame m ρ,
  fun m ρ _ => reference_frame m ρ,
  holds, bitexact, trivial, algebraic⟩

end Cert.Proof

end
